-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S1024x1024 : Shape := ⟨2, ![1024, 1024]⟩
abbrev S2x2x256x512 : Shape := ⟨4, ![2, 2, 256, 512]⟩
abbrev S2x2x128x512 : Shape := ⟨4, ![2, 2, 128, 512]⟩
abbrev S2x4x128x512 : Shape := ⟨4, ![2, 4, 128, 512]⟩
abbrev S20 : Shape := ⟨1, ![20]⟩
abbrev S16 : Shape := ⟨1, ![16]⟩
abbrev S2 : Shape := ⟨1, ![2]⟩
abbrev S_ : Shape := ⟨0, ![]⟩
abbrev S1 : Shape := ⟨1, ![1]⟩
abbrev S256x512 : Shape := ⟨2, ![256, 512]⟩
abbrev S256x256 : Shape := ⟨2, ![256, 256]⟩
abbrev S1x1x256x512 : Shape := ⟨4, ![1, 1, 256, 512]⟩
abbrev S128x512 : Shape := ⟨2, ![128, 512]⟩
abbrev S1x1x128x512 : Shape := ⟨4, ![1, 1, 128, 512]⟩

abbrev nBuf : Space → Nat
  | .hbm => 3
  | .vmem => 10
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S1024x1024, .f32⟩
  | .local _ .vmem, ⟨0, _⟩ => ⟨S1024x256, .f32⟩
  | .local _ .vmem, ⟨1, _⟩ => ⟨S256x1024, .f32⟩
  | .local _ .vmem, ⟨2, _⟩ => ⟨S1024x1024, .f32⟩
  | .local _ .vmem, ⟨3, _⟩ => ⟨S2x2x256x512, .bf16⟩
  | .local _ .vmem, ⟨4, _⟩ => ⟨S2x2x256x512, .bf16⟩
  | .local _ .vmem, ⟨5, _⟩ => ⟨S2x2x128x512, .bf16⟩
  | .local _ .vmem, ⟨6, _⟩ => ⟨S2x2x128x512, .bf16⟩
  | .local _ .vmem, ⟨7, _⟩ => ⟨S2x2x128x512, .bf16⟩
  | .local _ .vmem, ⟨8, _⟩ => ⟨S2x2x128x512, .bf16⟩
  | .local _ .vmem, ⟨9, _⟩ => ⟨S2x4x128x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_12 : BitVec 32 := 0#32
  let v22 : BitVec 1 := Scalar.cmpi .eq v2 c0_i32_12
  let v23 : BitVec 32 := Scalar.extui v22
  let c0_i32_13 : BitVec 32 := 0#32
  let v24 : BitVec 1 := Scalar.cmpi .ne v23 c0_i32_13
  v24

def k0_dev3 : Nat :=
  let c0_i32_32 : BitVec 32 := 0#32
  let c1_i32_30 : BitVec 32 := 1#32
  let c1_i32_31 : BitVec 32 := 1#32
  let v41 : BitVec 32 := Scalar.muli c1_i32_30 c1_i32_31
  let v42 : BitVec 32 := Scalar.addi c0_i32_32 v41
  v42.toNat
def k0_dev4 : Nat :=
  let c0_i32_52 : BitVec 32 := 0#32
  let c3_i32_50 : BitVec 32 := 3#32
  let c1_i32_51 : BitVec 32 := 1#32
  let v58 : BitVec 32 := Scalar.muli c3_i32_50 c1_i32_51
  let v59 : BitVec 32 := Scalar.addi c0_i32_52 v58
  v59.toNat
def k0_dev5 : Nat :=
  let c0_i32_72 : BitVec 32 := 0#32
  let c1_i32_70 : BitVec 32 := 1#32
  let c1_i32_71 : BitVec 32 := 1#32
  let v75 : BitVec 32 := Scalar.muli c1_i32_70 c1_i32_71
  let v76 : BitVec 32 := Scalar.addi c0_i32_72 v75
  v76.toNat
def k0_dev6 : Nat :=
  let c0_i32_92 : BitVec 32 := 0#32
  let c3_i32_90 : BitVec 32 := 3#32
  let c1_i32_91 : BitVec 32 := 1#32
  let v92 : BitVec 32 := Scalar.muli c3_i32_90 c1_i32_91
  let v93 : BitVec 32 := Scalar.addi c0_i32_92 v92
  v93.toNat
def k0_dev7 : Nat :=
  let c0_i32_137 : BitVec 32 := 0#32
  let c3_i32_135 : BitVec 32 := 3#32
  let c1_i32_136 : BitVec 32 := 1#32
  let v131 : BitVec 32 := Scalar.muli c3_i32_135 c1_i32_136
  let v132 : BitVec 32 := Scalar.addi c0_i32_137 v131
  v132.toNat
def k0_dev8 : Nat :=
  let c0_i32_153 : BitVec 32 := 0#32
  let c3_i32_151 : BitVec 32 := 3#32
  let c1_i32_152 : BitVec 32 := 1#32
  let v146 : BitVec 32 := Scalar.muli c3_i32_151 c1_i32_152
  let v147 : BitVec 32 := Scalar.addi c0_i32_153 v146
  v147.toNat
def k0_dev9 : Nat :=
  let c0_i32_186 : BitVec 32 := 0#32
  let c1_i32_184 : BitVec 32 := 1#32
  let c1_i32_185 : BitVec 32 := 1#32
  let v173 : BitVec 32 := Scalar.muli c1_i32_184 c1_i32_185
  let v174 : BitVec 32 := Scalar.addi c0_i32_186 v173
  v174.toNat
def k0_dev10 : Nat :=
  let c0_i32_202 : BitVec 32 := 0#32
  let c1_i32_200 : BitVec 32 := 1#32
  let c1_i32_201 : BitVec 32 := 1#32
  let v188 : BitVec 32 := Scalar.muli c1_i32_200 c1_i32_201
  let v189 : BitVec 32 := Scalar.addi c0_i32_202 v188
  v189.toNat
def k0_dev11 : Nat :=
  let c0_i32_273 : BitVec 32 := 0#32
  let c3_i32_271 : BitVec 32 := 3#32
  let c1_i32_272 : BitVec 32 := 1#32
  let v252 : BitVec 32 := Scalar.muli c3_i32_271 c1_i32_272
  let v253 : BitVec 32 := Scalar.addi c0_i32_273 v252
  v253.toNat
def k0_dev12 : Nat :=
  let c0_i32_285 : BitVec 32 := 0#32
  let c1_i32_283 : BitVec 32 := 1#32
  let c1_i32_284 : BitVec 32 := 1#32
  let v262 : BitVec 32 := Scalar.muli c1_i32_283 c1_i32_284
  let v263 : BitVec 32 := Scalar.addi c0_i32_285 v262
  v263.toNat
def k0_dev13 : Nat :=
  let c0_i32_329 : BitVec 32 := 0#32
  let c1_i32_327 : BitVec 32 := 1#32
  let c1_i32_328 : BitVec 32 := 1#32
  let v309 : BitVec 32 := Scalar.muli c1_i32_327 c1_i32_328
  let v310 : BitVec 32 := Scalar.addi c0_i32_329 v309
  v310.toNat
def k0_dev14 : Nat :=
  let c0_i32_341 : BitVec 32 := 0#32
  let c3_i32_339 : BitVec 32 := 3#32
  let c1_i32_340 : BitVec 32 := 1#32
  let v319 : BitVec 32 := Scalar.muli c3_i32_339 c1_i32_340
  let v320 : BitVec 32 := Scalar.addi c0_i32_341 v319
  v320.toNat
def k0_dev15 : Nat :=
  let c0_i32_384 : BitVec 32 := 0#32
  let c3_i32_382 : BitVec 32 := 3#32
  let c1_i32_383 : BitVec 32 := 1#32
  let v366 : BitVec 32 := Scalar.muli c3_i32_382 c1_i32_383
  let v367 : BitVec 32 := Scalar.addi c0_i32_384 v366
  v367.toNat
def k0_dev16 : Nat :=
  let c0_i32_396 : BitVec 32 := 0#32
  let c1_i32_394 : BitVec 32 := 1#32
  let c1_i32_395 : BitVec 32 := 1#32
  let v376 : BitVec 32 := Scalar.muli c1_i32_394 c1_i32_395
  let v377 : BitVec 32 := Scalar.addi c0_i32_396 v376
  v377.toNat
def k0_dev17 : Nat :=
  let c0_i32_438 : BitVec 32 := 0#32
  let c1_i32_436 : BitVec 32 := 1#32
  let c1_i32_437 : BitVec 32 := 1#32
  let v423 : BitVec 32 := Scalar.muli c1_i32_436 c1_i32_437
  let v424 : BitVec 32 := Scalar.addi c0_i32_438 v423
  v424.toNat
def k0_dev18 : Nat :=
  let c0_i32_450 : BitVec 32 := 0#32
  let c3_i32_448 : BitVec 32 := 3#32
  let c1_i32_449 : BitVec 32 := 1#32
  let v433 : BitVec 32 := Scalar.muli c3_i32_448 c1_i32_449
  let v434 : BitVec 32 := Scalar.addi c0_i32_450 v433
  v434.toNat
def k0_dev19 : Nat :=
  let c0_i32_482 : BitVec 32 := 0#32
  let c1_i32_480 : BitVec 32 := 1#32
  let c1_i32_481 : BitVec 32 := 1#32
  let v458 : BitVec 32 := Scalar.muli c1_i32_480 c1_i32_481
  let v459 : BitVec 32 := Scalar.addi c0_i32_482 v458
  v459.toNat
def k0_dev20 : Nat :=
  let c0_i32_507 : BitVec 32 := 0#32
  let c3_i32_505 : BitVec 32 := 3#32
  let c1_i32_506 : BitVec 32 := 1#32
  let v476 : BitVec 32 := Scalar.muli c3_i32_505 c1_i32_506
  let v477 : BitVec 32 := Scalar.addi c0_i32_507 v476
  v477.toNat
def k0_dev21 : Nat :=
  let c0_i32_553 : BitVec 32 := 0#32
  let c1_i32_551 : BitVec 32 := 1#32
  let c1_i32_552 : BitVec 32 := 1#32
  let v514 : BitVec 32 := Scalar.muli c1_i32_551 c1_i32_552
  let v515 : BitVec 32 := Scalar.addi c0_i32_553 v514
  v515.toNat
def k0_dev22 : Nat :=
  let c0_i32_578 : BitVec 32 := 0#32
  let c3_i32_576 : BitVec 32 := 3#32
  let c1_i32_577 : BitVec 32 := 1#32
  let v532 : BitVec 32 := Scalar.muli c3_i32_576 c1_i32_577
  let v533 : BitVec 32 := Scalar.addi c0_i32_578 v532
  v533.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v25 : BitVec 1 := Scalar.cmpi .eq v2 c1_i32_14
  let v26 : BitVec 32 := Scalar.extui v25
  let c0_i32_15 : BitVec 32 := 0#32
  let v27 : BitVec 1 := Scalar.cmpi .ne v26 c0_i32_15
  v27

def k0_dev23 : Nat :=
  let c0_i32_32 : BitVec 32 := 0#32
  let c0_i32_30 : BitVec 32 := 0#32
  let c1_i32_31 : BitVec 32 := 1#32
  let v41 : BitVec 32 := Scalar.muli c0_i32_30 c1_i32_31
  let v42 : BitVec 32 := Scalar.addi c0_i32_32 v41
  v42.toNat
def k0_dev24 : Nat :=
  let c0_i32_51 : BitVec 32 := 0#32
  let c2_i32_49 : BitVec 32 := 2#32
  let c1_i32_50 : BitVec 32 := 1#32
  let v58 : BitVec 32 := Scalar.muli c2_i32_49 c1_i32_50
  let v59 : BitVec 32 := Scalar.addi c0_i32_51 v58
  v59.toNat
def k0_dev25 : Nat :=
  let c0_i32_71 : BitVec 32 := 0#32
  let c0_i32_69 : BitVec 32 := 0#32
  let c1_i32_70 : BitVec 32 := 1#32
  let v75 : BitVec 32 := Scalar.muli c0_i32_69 c1_i32_70
  let v76 : BitVec 32 := Scalar.addi c0_i32_71 v75
  v76.toNat
def k0_dev26 : Nat :=
  let c0_i32_91 : BitVec 32 := 0#32
  let c2_i32_89 : BitVec 32 := 2#32
  let c1_i32_90 : BitVec 32 := 1#32
  let v92 : BitVec 32 := Scalar.muli c2_i32_89 c1_i32_90
  let v93 : BitVec 32 := Scalar.addi c0_i32_91 v92
  v93.toNat
def k0_dev27 : Nat :=
  let c0_i32_137 : BitVec 32 := 0#32
  let c2_i32_135 : BitVec 32 := 2#32
  let c1_i32_136 : BitVec 32 := 1#32
  let v131 : BitVec 32 := Scalar.muli c2_i32_135 c1_i32_136
  let v132 : BitVec 32 := Scalar.addi c0_i32_137 v131
  v132.toNat
def k0_dev28 : Nat :=
  let c0_i32_153 : BitVec 32 := 0#32
  let c2_i32_151 : BitVec 32 := 2#32
  let c1_i32_152 : BitVec 32 := 1#32
  let v146 : BitVec 32 := Scalar.muli c2_i32_151 c1_i32_152
  let v147 : BitVec 32 := Scalar.addi c0_i32_153 v146
  v147.toNat
def k0_dev29 : Nat :=
  let c0_i32_186 : BitVec 32 := 0#32
  let c0_i32_184 : BitVec 32 := 0#32
  let c1_i32_185 : BitVec 32 := 1#32
  let v173 : BitVec 32 := Scalar.muli c0_i32_184 c1_i32_185
  let v174 : BitVec 32 := Scalar.addi c0_i32_186 v173
  v174.toNat
def k0_dev30 : Nat :=
  let c0_i32_202 : BitVec 32 := 0#32
  let c0_i32_200 : BitVec 32 := 0#32
  let c1_i32_201 : BitVec 32 := 1#32
  let v188 : BitVec 32 := Scalar.muli c0_i32_200 c1_i32_201
  let v189 : BitVec 32 := Scalar.addi c0_i32_202 v188
  v189.toNat
def k0_dev31 : Nat :=
  let c0_i32_273 : BitVec 32 := 0#32
  let c2_i32_271 : BitVec 32 := 2#32
  let c1_i32_272 : BitVec 32 := 1#32
  let v252 : BitVec 32 := Scalar.muli c2_i32_271 c1_i32_272
  let v253 : BitVec 32 := Scalar.addi c0_i32_273 v252
  v253.toNat
def k0_dev32 : Nat :=
  let c0_i32_285 : BitVec 32 := 0#32
  let c0_i32_283 : BitVec 32 := 0#32
  let c1_i32_284 : BitVec 32 := 1#32
  let v262 : BitVec 32 := Scalar.muli c0_i32_283 c1_i32_284
  let v263 : BitVec 32 := Scalar.addi c0_i32_285 v262
  v263.toNat
def k0_dev33 : Nat :=
  let c0_i32_328 : BitVec 32 := 0#32
  let c0_i32_326 : BitVec 32 := 0#32
  let c1_i32_327 : BitVec 32 := 1#32
  let v309 : BitVec 32 := Scalar.muli c0_i32_326 c1_i32_327
  let v310 : BitVec 32 := Scalar.addi c0_i32_328 v309
  v310.toNat
def k0_dev34 : Nat :=
  let c0_i32_340 : BitVec 32 := 0#32
  let c2_i32_338 : BitVec 32 := 2#32
  let c1_i32_339 : BitVec 32 := 1#32
  let v319 : BitVec 32 := Scalar.muli c2_i32_338 c1_i32_339
  let v320 : BitVec 32 := Scalar.addi c0_i32_340 v319
  v320.toNat
def k0_dev35 : Nat :=
  let c0_i32_383 : BitVec 32 := 0#32
  let c2_i32_381 : BitVec 32 := 2#32
  let c1_i32_382 : BitVec 32 := 1#32
  let v366 : BitVec 32 := Scalar.muli c2_i32_381 c1_i32_382
  let v367 : BitVec 32 := Scalar.addi c0_i32_383 v366
  v367.toNat
def k0_dev36 : Nat :=
  let c0_i32_395 : BitVec 32 := 0#32
  let c0_i32_393 : BitVec 32 := 0#32
  let c1_i32_394 : BitVec 32 := 1#32
  let v376 : BitVec 32 := Scalar.muli c0_i32_393 c1_i32_394
  let v377 : BitVec 32 := Scalar.addi c0_i32_395 v376
  v377.toNat
def k0_dev37 : Nat :=
  let c0_i32_437 : BitVec 32 := 0#32
  let c0_i32_435 : BitVec 32 := 0#32
  let c1_i32_436 : BitVec 32 := 1#32
  let v423 : BitVec 32 := Scalar.muli c0_i32_435 c1_i32_436
  let v424 : BitVec 32 := Scalar.addi c0_i32_437 v423
  v424.toNat
def k0_dev38 : Nat :=
  let c0_i32_449 : BitVec 32 := 0#32
  let c2_i32_447 : BitVec 32 := 2#32
  let c1_i32_448 : BitVec 32 := 1#32
  let v433 : BitVec 32 := Scalar.muli c2_i32_447 c1_i32_448
  let v434 : BitVec 32 := Scalar.addi c0_i32_449 v433
  v434.toNat
def k0_dev39 : Nat :=
  let c0_i32_479 : BitVec 32 := 0#32
  let c0_i32_477 : BitVec 32 := 0#32
  let c1_i32_478 : BitVec 32 := 1#32
  let v458 : BitVec 32 := Scalar.muli c0_i32_477 c1_i32_478
  let v459 : BitVec 32 := Scalar.addi c0_i32_479 v458
  v459.toNat
def k0_dev40 : Nat :=
  let c0_i32_504 : BitVec 32 := 0#32
  let c2_i32_502 : BitVec 32 := 2#32
  let c1_i32_503 : BitVec 32 := 1#32
  let v476 : BitVec 32 := Scalar.muli c2_i32_502 c1_i32_503
  let v477 : BitVec 32 := Scalar.addi c0_i32_504 v476
  v477.toNat
def k0_dev41 : Nat :=
  let c0_i32_550 : BitVec 32 := 0#32
  let c0_i32_548 : BitVec 32 := 0#32
  let c1_i32_549 : BitVec 32 := 1#32
  let v514 : BitVec 32 := Scalar.muli c0_i32_548 c1_i32_549
  let v515 : BitVec 32 := Scalar.addi c0_i32_550 v514
  v515.toNat
def k0_dev42 : Nat :=
  let c0_i32_575 : BitVec 32 := 0#32
  let c2_i32_573 : BitVec 32 := 2#32
  let c1_i32_574 : BitVec 32 := 1#32
  let v532 : BitVec 32 := Scalar.muli c2_i32_573 c1_i32_574
  let v533 : BitVec 32 := Scalar.addi c0_i32_575 v532
  v533.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v28 : BitVec 1 := Scalar.cmpi .eq v2 c2_i32
  let v29 : BitVec 32 := Scalar.extui v28
  let c0_i32_16 : BitVec 32 := 0#32
  let v30 : BitVec 1 := Scalar.cmpi .ne v29 c0_i32_16
  v30

def k0_dev43 : Nat :=
  let c0_i32_34 : BitVec 32 := 0#32
  let c3_i32_32 : BitVec 32 := 3#32
  let c1_i32_33 : BitVec 32 := 1#32
  let v41 : BitVec 32 := Scalar.muli c3_i32_32 c1_i32_33
  let v42 : BitVec 32 := Scalar.addi c0_i32_34 v41
  v42.toNat
def k0_dev44 : Nat :=
  let c0_i32_53 : BitVec 32 := 0#32
  let c1_i32_51 : BitVec 32 := 1#32
  let c1_i32_52 : BitVec 32 := 1#32
  let v58 : BitVec 32 := Scalar.muli c1_i32_51 c1_i32_52
  let v59 : BitVec 32 := Scalar.addi c0_i32_53 v58
  v59.toNat
def k0_dev45 : Nat :=
  let c0_i32_72 : BitVec 32 := 0#32
  let c3_i32_70 : BitVec 32 := 3#32
  let c1_i32_71 : BitVec 32 := 1#32
  let v75 : BitVec 32 := Scalar.muli c3_i32_70 c1_i32_71
  let v76 : BitVec 32 := Scalar.addi c0_i32_72 v75
  v76.toNat
def k0_dev46 : Nat :=
  let c0_i32_92 : BitVec 32 := 0#32
  let c1_i32_90 : BitVec 32 := 1#32
  let c1_i32_91 : BitVec 32 := 1#32
  let v92 : BitVec 32 := Scalar.muli c1_i32_90 c1_i32_91
  let v93 : BitVec 32 := Scalar.addi c0_i32_92 v92
  v93.toNat
def k0_dev47 : Nat :=
  let c0_i32_137 : BitVec 32 := 0#32
  let c1_i32_135 : BitVec 32 := 1#32
  let c1_i32_136 : BitVec 32 := 1#32
  let v131 : BitVec 32 := Scalar.muli c1_i32_135 c1_i32_136
  let v132 : BitVec 32 := Scalar.addi c0_i32_137 v131
  v132.toNat
def k0_dev48 : Nat :=
  let c0_i32_153 : BitVec 32 := 0#32
  let c1_i32_151 : BitVec 32 := 1#32
  let c1_i32_152 : BitVec 32 := 1#32
  let v146 : BitVec 32 := Scalar.muli c1_i32_151 c1_i32_152
  let v147 : BitVec 32 := Scalar.addi c0_i32_153 v146
  v147.toNat
def k0_dev49 : Nat :=
  let c0_i32_186 : BitVec 32 := 0#32
  let c3_i32_184 : BitVec 32 := 3#32
  let c1_i32_185 : BitVec 32 := 1#32
  let v173 : BitVec 32 := Scalar.muli c3_i32_184 c1_i32_185
  let v174 : BitVec 32 := Scalar.addi c0_i32_186 v173
  v174.toNat
def k0_dev50 : Nat :=
  let c0_i32_202 : BitVec 32 := 0#32
  let c3_i32_200 : BitVec 32 := 3#32
  let c1_i32_201 : BitVec 32 := 1#32
  let v188 : BitVec 32 := Scalar.muli c3_i32_200 c1_i32_201
  let v189 : BitVec 32 := Scalar.addi c0_i32_202 v188
  v189.toNat
def k0_dev51 : Nat :=
  let c0_i32_273 : BitVec 32 := 0#32
  let c1_i32_271 : BitVec 32 := 1#32
  let c1_i32_272 : BitVec 32 := 1#32
  let v252 : BitVec 32 := Scalar.muli c1_i32_271 c1_i32_272
  let v253 : BitVec 32 := Scalar.addi c0_i32_273 v252
  v253.toNat
def k0_dev52 : Nat :=
  let c0_i32_285 : BitVec 32 := 0#32
  let c3_i32_283 : BitVec 32 := 3#32
  let c1_i32_284 : BitVec 32 := 1#32
  let v262 : BitVec 32 := Scalar.muli c3_i32_283 c1_i32_284
  let v263 : BitVec 32 := Scalar.addi c0_i32_285 v262
  v263.toNat
def k0_dev53 : Nat :=
  let c0_i32_328 : BitVec 32 := 0#32
  let c3_i32_326 : BitVec 32 := 3#32
  let c1_i32_327 : BitVec 32 := 1#32
  let v309 : BitVec 32 := Scalar.muli c3_i32_326 c1_i32_327
  let v310 : BitVec 32 := Scalar.addi c0_i32_328 v309
  v310.toNat
def k0_dev54 : Nat :=
  let c0_i32_340 : BitVec 32 := 0#32
  let c1_i32_338 : BitVec 32 := 1#32
  let c1_i32_339 : BitVec 32 := 1#32
  let v319 : BitVec 32 := Scalar.muli c1_i32_338 c1_i32_339
  let v320 : BitVec 32 := Scalar.addi c0_i32_340 v319
  v320.toNat
def k0_dev55 : Nat :=
  let c0_i32_383 : BitVec 32 := 0#32
  let c1_i32_381 : BitVec 32 := 1#32
  let c1_i32_382 : BitVec 32 := 1#32
  let v366 : BitVec 32 := Scalar.muli c1_i32_381 c1_i32_382
  let v367 : BitVec 32 := Scalar.addi c0_i32_383 v366
  v367.toNat
def k0_dev56 : Nat :=
  let c0_i32_395 : BitVec 32 := 0#32
  let c3_i32_393 : BitVec 32 := 3#32
  let c1_i32_394 : BitVec 32 := 1#32
  let v376 : BitVec 32 := Scalar.muli c3_i32_393 c1_i32_394
  let v377 : BitVec 32 := Scalar.addi c0_i32_395 v376
  v377.toNat
def k0_dev57 : Nat :=
  let c0_i32_437 : BitVec 32 := 0#32
  let c3_i32_435 : BitVec 32 := 3#32
  let c1_i32_436 : BitVec 32 := 1#32
  let v423 : BitVec 32 := Scalar.muli c3_i32_435 c1_i32_436
  let v424 : BitVec 32 := Scalar.addi c0_i32_437 v423
  v424.toNat
def k0_dev58 : Nat :=
  let c0_i32_449 : BitVec 32 := 0#32
  let c1_i32_447 : BitVec 32 := 1#32
  let c1_i32_448 : BitVec 32 := 1#32
  let v433 : BitVec 32 := Scalar.muli c1_i32_447 c1_i32_448
  let v434 : BitVec 32 := Scalar.addi c0_i32_449 v433
  v434.toNat
def k0_dev59 : Nat :=
  let c0_i32_479 : BitVec 32 := 0#32
  let c3_i32_477 : BitVec 32 := 3#32
  let c1_i32_478 : BitVec 32 := 1#32
  let v458 : BitVec 32 := Scalar.muli c3_i32_477 c1_i32_478
  let v459 : BitVec 32 := Scalar.addi c0_i32_479 v458
  v459.toNat
def k0_dev60 : Nat :=
  let c0_i32_504 : BitVec 32 := 0#32
  let c1_i32_502 : BitVec 32 := 1#32
  let c1_i32_503 : BitVec 32 := 1#32
  let v476 : BitVec 32 := Scalar.muli c1_i32_502 c1_i32_503
  let v477 : BitVec 32 := Scalar.addi c0_i32_504 v476
  v477.toNat
def k0_dev61 : Nat :=
  let c0_i32_551 : BitVec 32 := 0#32
  let c3_i32_549 : BitVec 32 := 3#32
  let c1_i32_550 : BitVec 32 := 1#32
  let v514 : BitVec 32 := Scalar.muli c3_i32_549 c1_i32_550
  let v515 : BitVec 32 := Scalar.addi c0_i32_551 v514
  v515.toNat
def k0_dev62 : Nat :=
  let c0_i32_576 : BitVec 32 := 0#32
  let c1_i32_574 : BitVec 32 := 1#32
  let c1_i32_575 : BitVec 32 := 1#32
  let v532 : BitVec 32 := Scalar.muli c1_i32_574 c1_i32_575
  let v533 : BitVec 32 := Scalar.addi c0_i32_576 v532
  v533.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_17 : BitVec 32 := 3#32
  let v31 : BitVec 1 := Scalar.cmpi .eq v2 c3_i32_17
  let v32 : BitVec 32 := Scalar.extui v31
  let c0_i32_18 : BitVec 32 := 0#32
  let v33 : BitVec 1 := Scalar.cmpi .ne v32 c0_i32_18
  v33

def k0_dev63 : Nat :=
  let c0_i32_34 : BitVec 32 := 0#32
  let c2_i32_32 : BitVec 32 := 2#32
  let c1_i32_33 : BitVec 32 := 1#32
  let v41 : BitVec 32 := Scalar.muli c2_i32_32 c1_i32_33
  let v42 : BitVec 32 := Scalar.addi c0_i32_34 v41
  v42.toNat
def k0_dev64 : Nat :=
  let c0_i32_52 : BitVec 32 := 0#32
  let c0_i32_50 : BitVec 32 := 0#32
  let c1_i32_51 : BitVec 32 := 1#32
  let v58 : BitVec 32 := Scalar.muli c0_i32_50 c1_i32_51
  let v59 : BitVec 32 := Scalar.addi c0_i32_52 v58
  v59.toNat
def k0_dev65 : Nat :=
  let c0_i32_71 : BitVec 32 := 0#32
  let c2_i32_69 : BitVec 32 := 2#32
  let c1_i32_70 : BitVec 32 := 1#32
  let v75 : BitVec 32 := Scalar.muli c2_i32_69 c1_i32_70
  let v76 : BitVec 32 := Scalar.addi c0_i32_71 v75
  v76.toNat
def k0_dev66 : Nat :=
  let c0_i32_91 : BitVec 32 := 0#32
  let c0_i32_89 : BitVec 32 := 0#32
  let c1_i32_90 : BitVec 32 := 1#32
  let v92 : BitVec 32 := Scalar.muli c0_i32_89 c1_i32_90
  let v93 : BitVec 32 := Scalar.addi c0_i32_91 v92
  v93.toNat
def k0_dev67 : Nat :=
  let c0_i32_137 : BitVec 32 := 0#32
  let c0_i32_135 : BitVec 32 := 0#32
  let c1_i32_136 : BitVec 32 := 1#32
  let v131 : BitVec 32 := Scalar.muli c0_i32_135 c1_i32_136
  let v132 : BitVec 32 := Scalar.addi c0_i32_137 v131
  v132.toNat
def k0_dev68 : Nat :=
  let c0_i32_153 : BitVec 32 := 0#32
  let c0_i32_151 : BitVec 32 := 0#32
  let c1_i32_152 : BitVec 32 := 1#32
  let v146 : BitVec 32 := Scalar.muli c0_i32_151 c1_i32_152
  let v147 : BitVec 32 := Scalar.addi c0_i32_153 v146
  v147.toNat
def k0_dev69 : Nat :=
  let c0_i32_186 : BitVec 32 := 0#32
  let c2_i32_184 : BitVec 32 := 2#32
  let c1_i32_185 : BitVec 32 := 1#32
  let v173 : BitVec 32 := Scalar.muli c2_i32_184 c1_i32_185
  let v174 : BitVec 32 := Scalar.addi c0_i32_186 v173
  v174.toNat
def k0_dev70 : Nat :=
  let c0_i32_202 : BitVec 32 := 0#32
  let c2_i32_200 : BitVec 32 := 2#32
  let c1_i32_201 : BitVec 32 := 1#32
  let v188 : BitVec 32 := Scalar.muli c2_i32_200 c1_i32_201
  let v189 : BitVec 32 := Scalar.addi c0_i32_202 v188
  v189.toNat
def k0_dev71 : Nat :=
  let c0_i32_273 : BitVec 32 := 0#32
  let c0_i32_271 : BitVec 32 := 0#32
  let c1_i32_272 : BitVec 32 := 1#32
  let v252 : BitVec 32 := Scalar.muli c0_i32_271 c1_i32_272
  let v253 : BitVec 32 := Scalar.addi c0_i32_273 v252
  v253.toNat
def k0_dev72 : Nat :=
  let c0_i32_285 : BitVec 32 := 0#32
  let c2_i32_283 : BitVec 32 := 2#32
  let c1_i32_284 : BitVec 32 := 1#32
  let v262 : BitVec 32 := Scalar.muli c2_i32_283 c1_i32_284
  let v263 : BitVec 32 := Scalar.addi c0_i32_285 v262
  v263.toNat
def k0_dev73 : Nat :=
  let c0_i32_328 : BitVec 32 := 0#32
  let c2_i32_326 : BitVec 32 := 2#32
  let c1_i32_327 : BitVec 32 := 1#32
  let v309 : BitVec 32 := Scalar.muli c2_i32_326 c1_i32_327
  let v310 : BitVec 32 := Scalar.addi c0_i32_328 v309
  v310.toNat
def k0_dev74 : Nat :=
  let c0_i32_340 : BitVec 32 := 0#32
  let c0_i32_338 : BitVec 32 := 0#32
  let c1_i32_339 : BitVec 32 := 1#32
  let v319 : BitVec 32 := Scalar.muli c0_i32_338 c1_i32_339
  let v320 : BitVec 32 := Scalar.addi c0_i32_340 v319
  v320.toNat
def k0_dev75 : Nat :=
  let c0_i32_382 : BitVec 32 := 0#32
  let c0_i32_380 : BitVec 32 := 0#32
  let c1_i32_381 : BitVec 32 := 1#32
  let v366 : BitVec 32 := Scalar.muli c0_i32_380 c1_i32_381
  let v367 : BitVec 32 := Scalar.addi c0_i32_382 v366
  v367.toNat
def k0_dev76 : Nat :=
  let c0_i32_394 : BitVec 32 := 0#32
  let c2_i32_392 : BitVec 32 := 2#32
  let c1_i32_393 : BitVec 32 := 1#32
  let v376 : BitVec 32 := Scalar.muli c2_i32_392 c1_i32_393
  let v377 : BitVec 32 := Scalar.addi c0_i32_394 v376
  v377.toNat
def k0_dev77 : Nat :=
  let c0_i32_436 : BitVec 32 := 0#32
  let c2_i32_434 : BitVec 32 := 2#32
  let c1_i32_435 : BitVec 32 := 1#32
  let v423 : BitVec 32 := Scalar.muli c2_i32_434 c1_i32_435
  let v424 : BitVec 32 := Scalar.addi c0_i32_436 v423
  v424.toNat
def k0_dev78 : Nat :=
  let c0_i32_448 : BitVec 32 := 0#32
  let c0_i32_446 : BitVec 32 := 0#32
  let c1_i32_447 : BitVec 32 := 1#32
  let v433 : BitVec 32 := Scalar.muli c0_i32_446 c1_i32_447
  let v434 : BitVec 32 := Scalar.addi c0_i32_448 v433
  v434.toNat
def k0_dev79 : Nat :=
  let c0_i32_478 : BitVec 32 := 0#32
  let c2_i32_476 : BitVec 32 := 2#32
  let c1_i32_477 : BitVec 32 := 1#32
  let v458 : BitVec 32 := Scalar.muli c2_i32_476 c1_i32_477
  let v459 : BitVec 32 := Scalar.addi c0_i32_478 v458
  v459.toNat
def k0_dev80 : Nat :=
  let c0_i32_503 : BitVec 32 := 0#32
  let c0_i32_501 : BitVec 32 := 0#32
  let c1_i32_502 : BitVec 32 := 1#32
  let v476 : BitVec 32 := Scalar.muli c0_i32_501 c1_i32_502
  let v477 : BitVec 32 := Scalar.addi c0_i32_503 v476
  v477.toNat
def k0_dev81 : Nat :=
  let c0_i32_550 : BitVec 32 := 0#32
  let c2_i32_548 : BitVec 32 := 2#32
  let c1_i32_549 : BitVec 32 := 1#32
  let v514 : BitVec 32 := Scalar.muli c2_i32_548 c1_i32_549
  let v515 : BitVec 32 := Scalar.addi c0_i32_550 v514
  v515.toNat
def k0_dev82 : Nat :=
  let c0_i32_575 : BitVec 32 := 0#32
  let c0_i32_573 : BitVec 32 := 0#32
  let c1_i32_574 : BitVec 32 := 1#32
  let v532 : BitVec 32 := Scalar.muli c0_i32_573 c1_i32_574
  let v533 : BitVec 32 := Scalar.addi c0_i32_575 v532
  v533.toNat
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/-
The kernel's body as ONE program over a symbolic device.

The printed kernel has a branch per device, each with that device's numbers written in. Here the same sequence
of operations is written once, the device `c` a variable: every offset, semaphore and peer is a small function
of `c`. `body_eq` says that the printed body, once it has read its device, is this program at that device.
-/
module

public import proofs.«01_k».proof.Proof.Gen.KernelIdeal
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-! ## The devices' numbers -/

/-- The other one of two. -/
def no (a : Fin 2) : Fin 2 := ⟨1 - a.val, by omega⟩

/-- The device in the same pair. -/
def p1 (c : Dev nD) : Dev nD := ⟨c.val + 1 - 2 * (c.val % 2), by have : c.val < 4 := c.isLt; show _ < 4; omega⟩

/-- The device across the two pairs. -/
def p2 (c : Dev nD) : Dev nD := ⟨3 - c.val, by show _ < 4; omega⟩

/-- The half of the rows that device `c` reduces in column half `i`. -/
def h (i : Fin 2) (c : Dev nD) : Fin 2 :=
  match i with
  | 0 => ⟨(c.val / 2 + c.val % 2) % 2, Nat.mod_lt _ (by decide)⟩
  | 1 => ⟨c.val / 2 % 2, Nat.mod_lt _ (by decide)⟩

/-- The quarter of that half it reduces. -/
def q (i : Fin 2) (c : Dev nD) : Fin 2 :=
  match i with
  | 0 => ⟨c.val / 2 % 2, Nat.mod_lt _ (by decide)⟩
  | 1 => ⟨c.val % 2, Nat.mod_lt _ (by decide)⟩

/-- The partner of the halves' exchange in column half `i`. -/
def pa (i : Fin 2) (c : Dev nD) : Dev nD := match i with | 0 => p1 c | 1 => p2 c

/-- The partner of the quarters' exchange in column half `i`. -/
def pb (i : Fin 2) (c : Dev nD) : Dev nD := match i with | 0 => p2 c | 1 => p1 c

/-- The `s`-th eighth of quarter `b`, of the four eighths of a half. -/
def k4 (b s : Fin 2) : Fin 4 := ⟨2 * b.val + s.val, by omega⟩

/-- The quarter an eighth lies in. -/
def kq (k : Fin 4) : Fin 2 := ⟨k.val / 2, by omega⟩

/-- Its place in the quarter. -/
def ks (k : Fin 4) : Fin 2 := ⟨k.val % 2, by omega⟩

/-! ## The transfers between devices -/

/-- The remote copies of a device: two of halves (`s1`), two of quarters in two parts (`s2`), the same back (`s3`),
    and four eighths of the finished half (`s4`), for each column half. -/
inductive Xf where
  | s1 (i j : Fin 2)
  | s2 (i j : Fin 2)
  | s3 (i j : Fin 2)
  | s4 (i : Fin 2) (k : Fin 4)
deriving DecidableEq

/-- The transfers as a sum of their families. -/
def Xf.equiv : Xf ≃ (Fin 2 × Fin 2) ⊕ (Fin 2 × Fin 2) ⊕ (Fin 2 × Fin 2) ⊕ (Fin 2 × Fin 4) where
  toFun
    | .s1 i j => .inl (i, j)
    | .s2 i j => .inr (.inl (i, j))
    | .s3 i j => .inr (.inr (.inl (i, j)))
    | .s4 i k => .inr (.inr (.inr (i, k)))
  invFun
    | .inl (i, j) => .s1 i j
    | .inr (.inl (i, j)) => .s2 i j
    | .inr (.inr (.inl (i, j))) => .s3 i j
    | .inr (.inr (.inr (i, k))) => .s4 i k
  left_inv := fun t => by cases t <;> rfl
  right_inv := fun x => by rcases x with ⟨i, j⟩ | ⟨i, j⟩ | ⟨i, j⟩ | ⟨i, k⟩ <;> rfl

instance : Fintype Xf := Fintype.ofEquiv _ Xf.equiv.symm

/-- The place of a transfer's semaphores in the two arrays. -/
def tix : Xf → ℕ
  | .s1 i j => 2 * i.val + j.val
  | .s2 i j => 4 + 2 * i.val + j.val
  | .s3 i j => 8 + 2 * i.val + j.val
  | .s4 i k => 12 + 4 * i.val + k.val

theorem tix_lt (t : Xf) : tix t < 20 := by cases t <;> simp only [tix] <;> omega

/-- The device a transfer goes to. -/
def tgt (c : Dev nD) : Xf → Dev nD
  | .s1 i _ => pa i c
  | .s2 i _ => pb i c
  | .s3 i _ => pb i c
  | .s4 i _ => pa i c

def sndI (t : Xf) : DmaSem sig := ⟨tix t, lt_of_lt_of_le (tix_lt t) (by decide)⟩
def rcvI (t : Xf) : DmaSem sig := ⟨20 + tix t, lt_of_lt_of_le (Nat.add_lt_add_left (tix_lt t) 20) (by decide)⟩
def outI (n : Fin 16) : DmaSem sig := ⟨40 + n.val, lt_of_lt_of_le (Nat.add_lt_add_left n.isLt 40) (by decide)⟩
def inI (n : Fin 2) : DmaSem sig := ⟨56 + n.val, lt_of_lt_of_le (Nat.add_lt_add_left n.isLt 56) (by decide)⟩

/-- The runtime's barrier semaphore. -/
abbrev barS : Sem sig := (SemArray.scalar (d := (![] : Fin 0 → Nat)) (sig.barrier 0 rfl)).sem

/-! ## The memory -/

abbrev aX : Memref sig .tc .hbm S1024x256 .f32 := Memref.whole main_arg0
abbrev aW : Memref sig .tc .hbm S256x1024 .f32 := Memref.whole main_arg1
abbrev aO : Memref sig .tc .hbm S1024x1024 .f32 := Memref.whole main_v1
abbrev mX : Memref sig .tc .vmem S1024x256 .f32 := Memref.whole cc0_scratch0
abbrev mW : Memref sig .tc .vmem S256x1024 .f32 := Memref.whole cc0_scratch1
abbrev mO : Memref sig .tc .vmem S1024x1024 .f32 := Memref.whole cc0_scratch2
abbrev sb1 : Memref sig .tc .vmem S2x2x256x512 .bf16 := Memref.whole cc0_scratch3
abbrev rb1 : Memref sig .tc .vmem S2x2x256x512 .bf16 := Memref.whole cc0_scratch4
abbrev sb2 : Memref sig .tc .vmem S2x2x128x512 .bf16 := Memref.whole cc0_scratch5
abbrev rb2 : Memref sig .tc .vmem S2x2x128x512 .bf16 := Memref.whole cc0_scratch6
abbrev sb3 : Memref sig .tc .vmem S2x2x128x512 .bf16 := Memref.whole cc0_scratch7
abbrev rb3 : Memref sig .tc .vmem S2x2x128x512 .bf16 := Memref.whole cc0_scratch8
abbrev rb4 : Memref sig .tc .vmem S2x4x128x512 .bf16 := Memref.whole cc0_scratch9

theorem inbX (a b : Fin 2) : ∀ x, (![512 * a.val + 256 * b.val, 0] : Fin 2 → Nat) x + S256x256.size x ≤ S1024x256.size x := by
  revert a b; decide
theorem inbW (i : Fin 2) : ∀ x, (![0, 512 * i.val] : Fin 2 → Nat) x + S256x512.size x ≤ S256x1024.size x := by
  revert i; decide
theorem inbA (i j : Fin 2) : ∀ x, (![i.val, j.val, 0, 0] : Fin 4 → Nat) x + S1x1x256x512.size x ≤ S2x2x256x512.size x := by
  revert i j; decide
theorem inbB (i j : Fin 2) : ∀ x, (![i.val, j.val, 0, 0] : Fin 4 → Nat) x + S1x1x128x512.size x ≤ S2x2x128x512.size x := by
  revert i j; decide
theorem inbC (i : Fin 2) (k : Fin 4) :
    ∀ x, (![i.val, k.val, 0, 0] : Fin 4 → Nat) x + S1x1x128x512.size x ≤ S2x4x128x512.size x := by
  revert i k; decide
theorem inbO (a : Fin 2) (k : Fin 4) (i : Fin 2) :
    ∀ x, (![512 * a.val + 128 * k.val, 512 * i.val] : Fin 2 → Nat) x + S128x512.size x ≤ S1024x1024.size x := by
  revert a k i; decide

/-- Rows of a quarter of `x`; columns of a half of `w`; the slots; an eighth of a half of the result. -/
abbrev rX (a b : Fin 2) : Rect S1024x256 := Rect.unit ![512 * a.val + 256 * b.val, 0] S256x256.size (inbX a b)
abbrev rW (i : Fin 2) : Rect S256x1024 := Rect.unit ![0, 512 * i.val] S256x512.size (inbW i)
abbrev rA (i j : Fin 2) : Rect S2x2x256x512 := Rect.unit ![i.val, j.val, 0, 0] S1x1x256x512.size (inbA i j)
abbrev rB (i j : Fin 2) : Rect S2x2x128x512 := Rect.unit ![i.val, j.val, 0, 0] S1x1x128x512.size (inbB i j)
abbrev rC (i : Fin 2) (k : Fin 4) : Rect S2x4x128x512 := Rect.unit ![i.val, k.val, 0, 0] S1x1x128x512.size (inbC i k)
abbrev rO (a : Fin 2) (k : Fin 4) (i : Fin 2) : Rect S1024x1024 :=
  Rect.unit ![512 * a.val + 128 * k.val, 512 * i.val] S128x512.size (inbO a k i)

theorem packA (i j : Fin 2) : (rA i j).PackedRows (EltTy.packing .bf16) := by revert i j; decide +kernel
theorem packB (i j : Fin 2) : (rB i j).PackedRows (EltTy.packing .bf16) := by revert i j; decide +kernel
theorem wordA (i j : Fin 2) : (rA i j).WholeWords (EltTy.packing .bf16) := by revert i j; decide +kernel
theorem wordB (i j : Fin 2) : (rB i j).WholeWords (EltTy.packing .bf16) := by revert i j; decide +kernel
theorem wordC (i : Fin 2) (k : Fin 4) : (rC i k).WholeWords (EltTy.packing .bf16) := by revert i k; decide +kernel

abbrev slA (m : Memref sig .tc .vmem S2x2x256x512 .bf16) (i j : Fin 2) : Memref sig .tc .vmem S256x512 .bf16 :=
  (m.slice (rA i j) (fun _ => rfl)).squeeze S256x512 squeezes_S1x1x256x512_S256x512
abbrev slB (m : Memref sig .tc .vmem S2x2x128x512 .bf16) (i j : Fin 2) : Memref sig .tc .vmem S128x512 .bf16 :=
  (m.slice (rB i j) (fun _ => rfl)).squeeze S128x512 squeezes_S1x1x128x512_S128x512
abbrev slC (m : Memref sig .tc .vmem S2x4x128x512 .bf16) (i : Fin 2) (k : Fin 4) : Memref sig .tc .vmem S128x512 .bf16 :=
  (m.slice (rC i k) (fun _ => rfl)).squeeze S128x512 squeezes_S1x1x128x512_S128x512
abbrev slO {sp : Space} (m : Memref sig .tc sp S1024x1024 .f32) (a : Fin 2) (k : Fin 4) (i : Fin 2) :
    Memref sig .tc sp S128x512 .f32 :=
  m.slice (rO a k i) (fun _ => rfl)

/-- The shape of a transfer. -/
abbrev shp (t : Xf) : Shape := match t with | .s1 _ _ => S256x512 | _ => S128x512

/-- Where a transfer lands. -/
def dst : (t : Xf) → Memref sig .tc .vmem (shp t) .bf16
  | .s1 i j => slA rb1 i j
  | .s2 i j => slB rb2 i j
  | .s3 i j => slB rb3 i j
  | .s4 i k => slC rb4 i k

/-- What it is read from: an eighth of the finished half is the device's own or the one it was sent. -/
def src (c : Dev nD) : (t : Xf) → Memref sig .tc .vmem (shp t) .bf16
  | .s1 i j => slA sb1 i j
  | .s2 i j => slB sb2 i j
  | .s3 i j => slB sb3 i j
  | .s4 i k => if kq k = q i c then slB sb3 i (ks k) else slB rb3 i (ks k)

theorem dst_word (t : Xf) : (dst t).view.WordExact := by
  cases t with
  | s1 i j => exact ((Memref.isWhole_whole cc0_scratch4).wordExact_slice rfl _ (wordA i j)).reshape _ _
  | s2 i j => exact ((Memref.isWhole_whole cc0_scratch6).wordExact_slice rfl _ (wordB i j)).reshape _ _
  | s3 i j => exact ((Memref.isWhole_whole cc0_scratch8).wordExact_slice rfl _ (wordB i j)).reshape _ _
  | s4 i k => exact ((Memref.isWhole_whole cc0_scratch9).wordExact_slice rfl _ (wordC i k)).reshape _ _

theorem src_word (c : Dev nD) (t : Xf) : (src c t).view.WordExact := by
  cases t with
  | s1 i j => exact ((Memref.isWhole_whole cc0_scratch3).wordExact_slice rfl _ (wordA i j)).reshape _ _
  | s2 i j => exact ((Memref.isWhole_whole cc0_scratch5).wordExact_slice rfl _ (wordB i j)).reshape _ _
  | s3 i j => exact ((Memref.isWhole_whole cc0_scratch7).wordExact_slice rfl _ (wordB i j)).reshape _ _
  | s4 i k =>
    show (if kq k = q i c then slB sb3 i (ks k) else slB rb3 i (ks k)).view.WordExact
    by_cases hk : kq k = q i c
    · rw [if_pos hk]; exact ((Memref.isWhole_whole cc0_scratch7).wordExact_slice rfl _ (wordB i (ks k))).reshape _ _
    · rw [if_neg hk]; exact ((Memref.isWhole_whole cc0_scratch8).wordExact_slice rfl _ (wordB i (ks k))).reshape _ _

/-! ## The values -/

/-- Two values indexed by the column half. -/
abbrev two {α : Type} (a b : α) (i : Fin 2) : α := match i with | 0 => a | 1 => b

def toB {s : Shape} (v : FVec F s .f32) : FVec F s .bf16 := truncf .bf16 v bitsLt_bf16_f32
def toF {s : Shape} (v : FVec F s .bf16) : FVec F s .f32 := extf .f32 v bitsLt_bf16_f32

/-- The product of a quarter of the rows of `x` with a half of the columns of `w`. -/
def dotR (x : Vec F S256x256 .f32) (wb : FVec F S256x512 .bf16) : FVec F S256x512 .f32 :=
  matmul dot_S256x256_S256x512_S256x512_1_0_0_1_n_n none (toB x) wb (constant S256x512 .f32 0x00000000#32)

theorem slicesH (s : Fin 2) : S256x512.Slices ![128 * s.val, 0] S128x512 := by revert s; decide

/-- A half of the rows of a quarter. -/
def halfV (s : Fin 2) (v : FVec F S256x512 .f32) : FVec F S128x512 .f32 :=
  extractStridedSlice S128x512 ![128 * s.val, 0] v (slicesH s)

def gelu (y : FVec F S128x512 .f32) : FVec F S128x512 .f32 :=
  mulf (mulf (broadcast S128x512 (Scalar.ofBits .f32 0x3F000000#32)) y)
    (addf (broadcast S128x512 (Scalar.ofBits .f32 0x3F800000#32))
      (tanh (mulf (broadcast S128x512 (Scalar.ofBits .f32 0x3F4C422A#32))
        (addf y (mulf (broadcast S128x512 (Scalar.ofBits .f32 0x3D372713#32)) (mulf (mulf y y) y))))))

/-! ## The program -/

/-- A program of the TensorCore. -/
abbrev Pg (F : FTy → Type) [FloatOps F] : Type 1 := Prog (TpuEff nD τ sig (Elt F) Λ₀ .tc) PUnit

/-- Load a quarter of `x`. -/
def ldX (a b : Fin 2) (k : Vec F S256x256 .f32 → Pg F) : Pg F :=
  .op (.load mX (rX a b).toLoadRect (View.loadsAt_vmem h_S256x256)) k

/-- Load a half of `w`. -/
def ldW (i : Fin 2) (k : Vec F S256x512 .f32 → Pg F) : Pg F :=
  .op (.load mW (rW i).toLoadRect (View.loadsAt_vmem h_S256x512)) k

/-- Load a slot. -/
def ldA (m : Memref sig .tc .vmem S2x2x256x512 .bf16) (i j : Fin 2) (k : FVec F S256x512 .bf16 → Pg F) : Pg F :=
  .op (.load m (rA i j).toLoadRect (View.loadsAt_vmem h_S1x1x256x512)) fun v =>
    k (shapeCast S256x512 v shapeCasts_S1x1x256x512_S256x512)
def ldB (m : Memref sig .tc .vmem S2x2x128x512 .bf16) (i j : Fin 2) (k : FVec F S128x512 .bf16 → Pg F) : Pg F :=
  .op (.load m (rB i j).toLoadRect (View.loadsAt_vmem h_S1x1x128x512)) fun v =>
    k (shapeCast S128x512 v shapeCasts_S1x1x128x512_S128x512)
def ldC (m : Memref sig .tc .vmem S2x4x128x512 .bf16) (i : Fin 2) (j : Fin 4) (k : FVec F S128x512 .bf16 → Pg F) : Pg F :=
  .op (.load m (rC i j).toLoadRect (View.loadsAt_vmem h_S1x1x128x512)) fun v =>
    k (shapeCast S128x512 v shapeCasts_S1x1x128x512_S128x512)

/-- Store a slot (the store reads it first, and drops what it read). -/
def stA (m : Memref sig .tc .vmem S2x2x256x512 .bf16) (hm : m.IsWhole) (i j : Fin 2) (v : FVec F S256x512 .bf16) (k : Pg F) : Pg F :=
  .op (.load m (rA i j).toLoadRect (View.loadsAt_vmem h_S1x1x256x512)) fun _ =>
  .op (.store m (rA i j) (shapeCast S1x1x256x512 v shapeCasts_S256x512_S1x1x256x512) Finset.univ
    (View.stores_vmem h_S1x1x256x512 (hm.storeExact_slice rfl _ (packA i j)) (fun _ => rfl)) (.inl rfl)) fun _ => k
def stB (m : Memref sig .tc .vmem S2x2x128x512 .bf16) (hm : m.IsWhole) (i j : Fin 2) (v : FVec F S128x512 .bf16) (k : Pg F) : Pg F :=
  .op (.load m (rB i j).toLoadRect (View.loadsAt_vmem h_S1x1x128x512)) fun _ =>
  .op (.store m (rB i j) (shapeCast S1x1x128x512 v shapeCasts_S128x512_S1x1x128x512) Finset.univ
    (View.stores_vmem h_S1x1x128x512 (hm.storeExact_slice rfl _ (packB i j)) (fun _ => rfl)) (.inl rfl)) fun _ => k

/-- Start a transfer, wait for one to land, wait for one to have left. -/
def send (c : Dev nD) (t : Xf) (k : Pg F) : Pg F :=
  .op (.enqueueDma (src c t) (.remote (Dev.tc (tgt c t)) (dst t) (.dma (sndI t))) (.dma (rcvI t)) (src_word c t) (dst_word t)
    ⟨⟨rfl, Or.inl rfl⟩, trivial⟩) fun _ => k
def recv (c : Dev nD) (t : Xf) (k : Pg F) : Pg F :=
  .op (.waitDma2 (rcvI t) (src c t) (dst t) (src_word c t) (dst_word t)) fun _ => k
def sent (c : Dev nD) (t : Xf) (k : Pg F) : Pg F :=
  .op (.waitDma2 (sndI t) (dst t) (src c t) (dst_word t) (src_word c t)) fun _ => k

/-- Put an eighth of the result into its place and start its copy out, the `n`-th. -/
def out (n : Fin 16) (a : Fin 2) (k : Fin 4) (i : Fin 2) (v : FVec F S128x512 .f32) (kk : Pg F) : Pg F :=
  .op (.load mO (rO a k i).toLoadRect (View.loadsAt_vmem h_S128x512)) fun _ =>
  .op (.store mO (rO a k i) (shapeCast S128x512 v shapeCasts_S128x512_S128x512) Finset.univ
    (View.stores_vmem_bits_univ h_S128x512 rfl) (.inl rfl)) fun _ =>
  .op (.enqueueDma (slO mO a k i) (.here (slO aO a k i)) (.dma (outI n)) (View.wordExact_bits rfl) (View.wordExact_bits rfl)
    ⟨Or.inl rfl, trivial⟩) fun _ => kk

/-- Wait for the `n`-th copy out. -/
def outW (n : Fin 16) (a : Fin 2) (k : Fin 4) (i : Fin 2) (kk : Pg F) : Pg F :=
  .op (.waitDma2 (outI n) (slO mO a k i) (slO aO a k i) (View.wordExact_bits rfl) (View.wordExact_bits rfl)) fun _ => kk

/-- Put a partial product to be sent. -/
def put1 (c : Dev nD) (wb : Fin 2 → FVec F S256x512 .bf16) (i j : Fin 2) (k : Pg F) : Pg F :=
  ldX (no (h i c)) j fun x => stA sb1 (Memref.isWhole_whole _) i j (toB (dotR x (wb i))) k

/-- Add the partner's part of the quarter that is not ours and pass it on. -/
def red2 (c : Dev nD) (i : Fin 2) (d : FVec F S256x512 .f32) (k : Pg F) : Pg F :=
  recv c (.s1 i (no (q i c))) <| ldA rb1 i (no (q i c)) fun v =>
    stB sb2 (Memref.isWhole_whole _) i 0 (toB (halfV 0 (addf d (toF v)))) <| send c (.s2 i 0) <|
    stB sb2 (Memref.isWhole_whole _) i 1 (toB (halfV 1 (addf d (toF v)))) <| send c (.s2 i 1) k

/-- Add the partner's part of our own quarter. -/
def red1 (c : Dev nD) (i : Fin 2) (d : FVec F S256x512 .f32) (k : FVec F S256x512 .f32 → Pg F) : Pg F :=
  recv c (.s1 i (q i c)) <| ldA rb1 i (q i c) fun v => k (addf d (toF v))

/-- Finish an eighth and pass it on twice. -/
def fin3 (c : Dev nD) (n : Fin 16) (i s : Fin 2) (ksum : FVec F S256x512 .f32) (k : Pg F) : Pg F :=
  recv c (.s2 i s) <| ldB rb2 i s fun v =>
    stB sb3 (Memref.isWhole_whole _) i s (toB (gelu (addf (halfV s ksum) (toF v)))) <|
    send c (.s3 i s) <| send c (.s4 i (k4 (q i c) s)) <|
    out n (h i c) (k4 (q i c) s) i (gelu (addf (halfV s ksum) (toF v))) k

/-- Pass on an eighth the partner finished. -/
def fwd (c : Dev nD) (i s : Fin 2) (k : Pg F) : Pg F :=
  recv c (.s3 i s) <| send c (.s4 i (k4 (no (q i c)) s)) k

/-- Put it out. -/
def out3 (c : Dev nD) (n : Fin 16) (i s : Fin 2) (k : Pg F) : Pg F :=
  ldB rb3 i s fun v => out n (h i c) (k4 (no (q i c)) s) i (toF v) k

/-- Take an eighth of the other half and put it out. -/
def arr4 (c : Dev nD) (n : Fin 16) (i : Fin 2) (k : Fin 4) (kk : Pg F) : Pg F :=
  recv c (.s4 i k) <| ldC rb4 i k fun v => out n (no (h i c)) k i (toF v) kk

/-- The order in which the other half's eighths are taken: quarter by quarter. -/
def qp (i : Fin 2) (c : Dev nD) : Fin 2 := match i with | 0 => q 0 c | 1 => no (q 1 c)

/-- The first stage: the halves sent, the barrier waited for before the first transfer. -/
def stage1 (c : Dev nD) (wb : Fin 2 → FVec F S256x512 .bf16) (k : Pg F) : Pg F :=
  put1 c wb 0 (no (q 0 c)) <| .op (.semWait barS ((2 : ℕ) : ℤ)) fun _ => send c (.s1 0 (no (q 0 c))) <|
  put1 c wb 1 (q 1 c) <| send c (.s1 1 (q 1 c)) <|
  put1 c wb 0 (q 0 c) <| send c (.s1 0 (q 0 c)) <|
  put1 c wb 1 (no (q 1 c)) <| send c (.s1 1 (no (q 1 c))) k

/-- The second stage: what the device keeps of `x`, the parts added, the quarters sent. -/
def stage2 (c : Dev nD) (wb : Fin 2 → FVec F S256x512 .bf16) (k : FVec F S256x512 .f32 → FVec F S256x512 .f32 → Pg F) : Pg F :=
  ldX (h 0 c) (no (q 0 c)) fun x0 => ldX (h 1 c) (no (q 1 c)) fun x1 =>
  ldX (h 0 c) (q 0 c) fun y0 => ldX (h 1 c) (q 1 c) fun y1 =>
  red2 c 0 (dotR x0 (wb 0)) <| red2 c 1 (dotR x1 (wb 1)) <|
  red1 c 0 (dotR y0 (wb 0)) fun k0 => red1 c 1 (dotR y1 (wb 1)) fun k1 => k k0 k1

/-- The third: our quarter finished. -/
def stage3 (c : Dev nD) (k0 k1 : FVec F S256x512 .f32) (k : Pg F) : Pg F :=
  fin3 c 0 0 0 k0 <| fin3 c 1 1 0 k1 <| fin3 c 2 0 1 k0 <| fin3 c 3 1 1 k1 k

/-- The fourth: the partner's quarter passed on and put out. -/
def stage4 (c : Dev nD) (k : Pg F) : Pg F :=
  fwd c 0 0 <| fwd c 1 0 <| out3 c 4 0 0 <| out3 c 5 1 0 <|
  fwd c 0 1 <| fwd c 1 1 <| out3 c 6 0 1 <| out3 c 7 1 1 k

/-- The fifth: the other half. -/
def stage5 (c : Dev nD) (k : Pg F) : Pg F :=
  arr4 c 8 0 (k4 (qp 0 c) 0) <| arr4 c 9 1 (k4 (qp 1 c) 0) <|
  arr4 c 10 0 (k4 (qp 0 c) 1) <| arr4 c 11 1 (k4 (qp 1 c) 1) <|
  arr4 c 12 0 (k4 (no (qp 0 c)) 0) <| arr4 c 13 1 (k4 (no (qp 1 c)) 0) <|
  arr4 c 14 0 (k4 (no (qp 0 c)) 1) <| arr4 c 15 1 (k4 (no (qp 1 c)) 1) k

/-- A column half's transfers waited for. -/
def drain (c : Dev nD) (i : Fin 2) (k : Pg F) : Pg F :=
  sent c (.s1 i 0) <| sent c (.s2 i 0) <| sent c (.s3 i 0) <| sent c (.s1 i 1) <| sent c (.s2 i 1) <| sent c (.s3 i 1) <|
  sent c (.s4 i 0) <| sent c (.s4 i 1) <| sent c (.s4 i 2) <| sent c (.s4 i 3) k

/-- The copies out waited for. -/
def drainO (c : Dev nD) (k : Pg F) : Pg F :=
  outW 0 (h 0 c) (k4 (q 0 c) 0) 0 <| outW 1 (h 1 c) (k4 (q 1 c) 0) 1 <|
  outW 2 (h 0 c) (k4 (q 0 c) 1) 0 <| outW 3 (h 1 c) (k4 (q 1 c) 1) 1 <|
  outW 4 (h 0 c) (k4 (no (q 0 c)) 0) 0 <| outW 5 (h 1 c) (k4 (no (q 1 c)) 0) 1 <|
  outW 6 (h 0 c) (k4 (no (q 0 c)) 1) 0 <| outW 7 (h 1 c) (k4 (no (q 1 c)) 1) 1 <|
  outW 8 (no (h 0 c)) (k4 (qp 0 c) 0) 0 <| outW 9 (no (h 1 c)) (k4 (qp 1 c) 0) 1 <|
  outW 10 (no (h 0 c)) (k4 (qp 0 c) 1) 0 <| outW 11 (no (h 1 c)) (k4 (qp 1 c) 1) 1 <|
  outW 12 (no (h 0 c)) (k4 (no (qp 0 c)) 0) 0 <| outW 13 (no (h 1 c)) (k4 (no (qp 1 c)) 0) 1 <|
  outW 14 (no (h 0 c)) (k4 (no (qp 0 c)) 1) 0 <| outW 15 (no (h 1 c)) (k4 (no (qp 1 c)) 1) 1 k

/-- Everything after the operands are read. -/
def tail (c : Dev nD) (wb : Fin 2 → FVec F S256x512 .bf16) : Pg F :=
  stage1 c wb <| stage2 c wb fun k0 k1 => stage3 c k0 k1 <| stage4 c <| stage5 c <| drain c 0 <| drain c 1 <| drainO c (.ret ⟨⟩)

/-- The start: the two signals, the operands copied in and read. -/
def head (c : Dev nD) (k : (Fin 2 → FVec F S256x512 .bf16) → Pg F) : Pg F :=
  .op (.semSignal (Dev.tc (p1 c)) barS ((1 : ℕ) : ℤ)) fun _ =>
  .op (.semSignal (Dev.tc (p2 c)) barS ((1 : ℕ) : ℤ)) fun _ =>
  .op (.enqueueDma aW (.here mW) (.dma (inI 0)) (Memref.isWhole_whole _).wordExact (Memref.isWhole_whole _).wordExact
    ⟨Or.inl rfl, trivial⟩) fun _ =>
  .op (.enqueueDma aX (.here mX) (.dma (inI 1)) (Memref.isWhole_whole _).wordExact (Memref.isWhole_whole _).wordExact
    ⟨Or.inl rfl, trivial⟩) fun _ =>
  .op (.waitDma2 (inI 0) aW mW (Memref.isWhole_whole _).wordExact (Memref.isWhole_whole _).wordExact) fun _ =>
  ldW 0 fun w0 => ldW 1 fun w1 =>
  .op (.waitDma2 (inI 1) aX mX (Memref.isWhole_whole _).wordExact (Memref.isWhole_whole _).wordExact) fun _ =>
  k (two (toB w0) (toB w1))

/-- The body at device `c`. -/
def gen (c : Dev nD) : Pg F := head c (tail c)

end Cert.AllReduce

end
-- ==== Proof.Proto.lean ====
/-
The protocol of the all-reduce: what each transfer carries, and the schedule of rounds its cells follow.

The contents are functions of the devices' operands `X` and `W`. A send cell pays back the memory the transfer read;
a receive cell pays the landing slot with what its sender put; the barrier cell pays, from each of the two partners,
the landing slots of that partner. Levels order the waits: the barrier before the halves, these before the quarters,
these before the quarters' return, and the finished eighths last.
-/
module

public import proofs.«01_k».proof.Proof.Prog
public import Idealize.ShloMosaic.Lib.Transfers

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's, the protocol's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

omit [FloatOps F] in
instance ER_landsIn : (ER : Emb UB 𝕄).LandsIn (upEmb : UEmb _ 𝕄) := by unfold ER; infer_instance

/-! ## The contents -/

section Contents
variable (X : Dev nD → Vec F S1024x256 .f32) (W : Dev nD → Vec F S256x1024 .f32)

/-- A quarter of the rows of device `c`'s block of `x`; a half of the columns of its block of `w`. -/
def xr (c : Dev nD) (a b : Fin 2) : Vec F S256x256 .f32 := mX.view.readAt (Elt F) (rX a b).toLoadRect (X c)
def wc (c : Dev nD) (i : Fin 2) : Vec F S256x512 .f32 := mW.view.readAt (Elt F) (rW i).toLoadRect (W c)
def wb (c : Dev nD) : Fin 2 → FVec F S256x512 .bf16 := two (toB (wc W c 0)) (toB (wc W c 1))

/-- Device `c`'s partial product of the rows `(a, b)` and the columns `i`. -/
def dq (c : Dev nD) (i a b : Fin 2) : FVec F S256x512 .f32 := dotR (xr X c a b) (wb W c i)
/-- What it sends of it in the exchange of halves. -/
def vA (c : Dev nD) (i j : Fin 2) : FVec F S256x512 .bf16 := toB (dq X W c i (no (h i c)) j)
/-- A quarter of its half with the partner's part added. -/
def sm2 (c : Dev nD) (i j : Fin 2) : FVec F S256x512 .f32 := addf (dq X W c i (h i c) j) (toF (vA X W (pa i c) i j))
/-- What it sends in the exchange of quarters. -/
def vB (c : Dev nD) (i s : Fin 2) : FVec F S128x512 .bf16 := toB (halfV s (sm2 X W c i (no (q i c))))
/-- Its own quarter finished. -/
def fin (c : Dev nD) (i s : Fin 2) : FVec F S128x512 .f32 :=
  gelu (addf (halfV s (sm2 X W c i (q i c))) (toF (vB X W (pb i c) i s)))
def vG (c : Dev nD) (i s : Fin 2) : FVec F S128x512 .bf16 := toB (fin X W c i s)

/-- An eighth of its half: its own, or the one it was sent. -/
def vE (c : Dev nD) (i : Fin 2) (k : Fin 4) : FVec F S128x512 .bf16 :=
  if kq k = q i c then vG X W c i (ks k) else vG X W (pb i c) i (ks k)

/-- What a transfer of device `c` carries. -/
def val (c : Dev nD) : (t : Xf) → Vec F (shp t) .bf16
  | .s1 i j => vA X W c i j
  | .s2 i j => vB X W c i j
  | .s3 i j => vG X W c i j
  | .s4 i k => vE X W c i k

/-- The result: the rows `(a, k)`, columns `i`. -/
def res (c : Dev nD) (a : Fin 2) (k : Fin 4) (i : Fin 2) : FVec F S128x512 .f32 :=
  if a = h i c then (if kq k = q i c then fin X W c i (ks k) else toF (vG X W (pb i c) i (ks k)))
  else toF (vE X W (pa i c) i k)

end Contents

/-! ## The partners -/

theorem p1_p1 (c : Dev nD) : p1 (p1 c) = c := by revert c; decide
theorem p2_p2 (c : Dev nD) : p2 (p2 c) = c := by revert c; decide
theorem tgt_tgt (c : Dev nD) (t : Xf) : tgt (tgt c t) t = c := by
  cases t with
  | s1 i _ => fin_cases i; exacts [p1_p1 c, p2_p2 c]
  | s2 i _ => fin_cases i; exacts [p2_p2 c, p1_p1 c]
  | s3 i _ => fin_cases i; exacts [p2_p2 c, p1_p1 c]
  | s4 i _ => fin_cases i; exacts [p1_p1 c, p2_p2 c]

/-- Whether a transfer goes across the pairs. -/
def side : Xf → Bool
  | .s1 i _ => i == 1
  | .s2 i _ => i == 0
  | .s3 i _ => i == 0
  | .s4 i _ => i == 1

def pd (c : Dev nD) (b : Bool) : Dev nD := if b then p2 c else p1 c
theorem pd_pd (c : Dev nD) (b : Bool) : pd (pd c b) b = c := by cases b; exacts [p1_p1 c, p2_p2 c]
theorem tgt_side (c : Dev nD) (t : Xf) : tgt c t = pd c (side t) := by
  cases t with
  | s1 i _ => fin_cases i <;> rfl
  | s2 i _ => fin_cases i <;> rfl
  | s3 i _ => fin_cases i <;> rfl
  | s4 i _ => fin_cases i <;> rfl

theorem kq_k4 (a b : Fin 2) : kq (k4 a b) = a := by revert a b; decide
theorem ks_k4 (a b : Fin 2) : ks (k4 a b) = b := by revert a b; decide
theorem k4_kq (k : Fin 4) : k4 (kq k) (ks k) = k := by revert k; decide
theorem no_no (a : Fin 2) : no (no a) = a := by revert a; decide
theorem no_ne (a : Fin 2) : no a ≠ a := by revert a; decide
theorem eq_no {a b : Fin 2} (h : a ≠ b) : a = no b := by revert a b; decide
theorem h_pa (i : Fin 2) (c : Dev nD) : h i (pa i c) = no (h i c) := by revert i c; decide
theorem h_pb (i : Fin 2) (c : Dev nD) : h i (pb i c) = h i c := by revert i c; decide
theorem q_pb (i : Fin 2) (c : Dev nD) : q i (pb i c) = no (q i c) := by revert i c; decide
theorem pa_pa (i : Fin 2) (c : Dev nD) : pa i (pa i c) = c := by revert i c; decide
theorem pb_pb (i : Fin 2) (c : Dev nD) : pb i (pb i c) = c := by revert i c; decide

/-! ## The cells -/

/-- The cells of a device: its barrier, its sends, its receives. -/
abbrev KI : Type := Unit ⊕ Xf ⊕ Xf

def ksem : KI → SemLoc sig
  | .inl _ => .reg barS
  | .inr (.inl t) => .dma (sndI t)
  | .inr (.inr t) => .dma (rcvI t)

abbrev kcell (c : Dev nD) (k : KI) : GSem nD τ sig := ((c : Thread nD τ), ksem k)
abbrev barC (c : Dev nD) : GSem nD τ sig := ((c : Thread nD τ), .reg barS)
abbrev sndC (c : Dev nD) (t : Xf) : GSem nD τ sig := ((c : Thread nD τ), .dma (sndI t))
abbrev rcvC (c : Dev nD) (t : Xf) : GSem nD τ sig := ((c : Thread nD τ), .dma (rcvI t))

/-- The transfer of a place. -/
def xfOf (n : ℕ) : Xf :=
  if n < 4 then .s1 ⟨n / 2 % 2, Nat.mod_lt _ (by decide)⟩ ⟨n % 2, Nat.mod_lt _ (by decide)⟩
  else if n < 8 then .s2 ⟨n / 2 % 2, Nat.mod_lt _ (by decide)⟩ ⟨n % 2, Nat.mod_lt _ (by decide)⟩
  else if n < 12 then .s3 ⟨n / 2 % 2, Nat.mod_lt _ (by decide)⟩ ⟨n % 2, Nat.mod_lt _ (by decide)⟩
  else .s4 ⟨(n - 12) / 4 % 2, Nat.mod_lt _ (by decide)⟩ ⟨(n - 12) % 4, Nat.mod_lt _ (by decide)⟩

theorem xfOf_tix (t : Xf) : xfOf (tix t) = t := by revert t; decide

theorem tix_inj {t t' : Xf} (h : tix t = tix t') : t = t' := by rw [← xfOf_tix t, ← xfOf_tix t', h]

theorem ksem_inj : Function.Injective ksem := by
  intro k k' hk
  have hl := tix_lt
  rcases k with u | t | t <;> rcases k' with u' | t' | t' <;> simp only [ksem] at hk
  · rfl
  · cases hk
  · cases hk
  · cases hk
  · have := congrArg Fin.val (SemLoc.dma.inj hk); exact congrArg _ (congrArg _ (tix_inj this))
  · have := congrArg Fin.val (SemLoc.dma.inj hk); simp only [sndI, rcvI] at this; have := hl t; omega
  · cases hk
  · have := congrArg Fin.val (SemLoc.dma.inj hk); simp only [sndI, rcvI] at this; have := hl t'; omega
  · have := congrArg Fin.val (SemLoc.dma.inj hk); simp only [rcvI] at this
    exact congrArg _ (congrArg _ (tix_inj (by omega)))

/-! ## The schedule -/

/-- The credit of a transfer. -/
def Nt (t : Xf) : ℕ := (dst t).view.dmaCredit
theorem Nt_pos (t : Xf) : 0 < Nt t := View.dmaCredit_pos _ (by cases t; exacts [(by decide : 0 < S256x512.numel), (by decide : 0 < S128x512.numel), (by decide : 0 < S128x512.numel), (by decide : 0 < S128x512.numel)])

/-- The share of its source a transfer takes: a finished eighth goes out twice, by halves. -/
def shr : Xf → PosShare TreeShare
  | .s1 _ _ => fullShare
  | .s2 _ _ => fullShare
  | .s3 _ _ => (fullShare : PosShare TreeShare).left
  | .s4 _ _ => (fullShare : PosShare TreeShare).right

/-- A transfer's landing slot on device `c`, whatever it holds. -/
def slot (c : Dev nD) (t : Xf) : sProp 𝕄 := iprop(∃ Y, owns (c : Thread nD τ) (dst t) fullShare Y)

omit [FloatOps F] in
instance slot_storable (c : Dev nD) (t : Xf) : BI.Storable (upEmb : UEmb _ 𝕄) (slot (F := F) c t) := by
  unfold slot; infer_instance

/-- The landing slots a partner hands over at the barrier. -/
def barPay (c : Dev nD) (b : Bool) : sProp 𝕄 := bigSep (Finset.univ.filter fun t => side t = b) (slot (F := F) (pd c b))

omit [FloatOps F] in
instance barPay_storable (c : Dev nD) (b : Bool) : BI.Storable (upEmb : UEmb _ 𝕄) (barPay (F := F) c b) := by
  unfold barPay; infer_instance

variable (X : Dev nD → Vec F S1024x256 .f32) (W : Dev nD → Vec F S256x1024 .f32)

def sndPay (c : Dev nD) (t : Xf) : sProp 𝕄 := owns (c : Thread nD τ) (src c t) (shr t) (val X W c t)
def rcvPay (c : Dev nD) (t : Xf) : sProp 𝕄 := owns (c : Thread nD τ) (dst t) fullShare (val X W (tgt c t) t)

instance sndPay_storable (c : Dev nD) (t : Xf) : BI.Storable (upEmb : UEmb _ 𝕄) (sndPay (F := F) X W c t) := by
  unfold sndPay; infer_instance
instance rcvPay_storable (c : Dev nD) (t : Xf) : BI.Storable (upEmb : UEmb _ 𝕄) (rcvPay (F := F) X W c t) := by
  unfold rcvPay; infer_instance

def dutyS : SemLoc sig → Finset Bool
  | .reg _ => Finset.univ
  | .dma n => if n.val < 40 then {false} else ∅
def amtS : SemLoc sig → ℕ
  | .reg _ => 1
  | .dma n => Nt (xfOf (n.val % 20))
def payS (c : Dev nD) (d : Bool) : SemLoc sig → sProp 𝕄
  | .reg _ => barPay c d
  | .dma n => if n.val < 20 then sndPay X W c (xfOf (n.val % 20)) else rcvPay X W c (xfOf (n.val % 20))

/-- One round: the barrier's two duties of one unit, a send's and a receive's one duty of the transfer's credit. -/
def sch : Rounds.Schedule (GSem nD τ sig) Bool 𝕄 where
  duties g r := if r = 0 ∧ g.1.2 = .tc then dutyS g.2 else ∅
  unitless _ := False
  amount g _ _ := amtS g.2
  payload g _ d := payS X W g.1.1 d g.2
  amount_pos g _ _ _ := by
    show 0 < amtS g.2
    rcases g.2 with s | n
    · exact Nat.one_pos
    · exact Nt_pos _

instance sch_payload_storable (g : GSem nD τ sig) (r : ℕ) (d : Bool) :
    BI.Storable (upEmb : UEmb _ 𝕄) ((sch (F := F) X W).payload g r d) := by
  show BI.Storable upEmb (payS X W g.1.1 d g.2)
  rcases g.2 with s | n
  · unfold payS; infer_instance
  · unfold payS; dsimp only; split <;> infer_instance

section Sched
variable (c : Dev nD) (t : Xf)

theorem snd_mod : (sndI t).val % 20 = tix t := Nat.mod_eq_of_lt (tix_lt t)
theorem rcv_mod : (rcvI t).val % 20 = tix t := by
  have := tix_lt t; show (20 + tix t) % 20 = tix t; omega

theorem duties_bar : (sch (F := F) X W).duties (barC c) 0 = Finset.univ := by
  dsimp only [sch]; exact if_pos ⟨rfl, rfl⟩
theorem duties_snd : (sch (F := F) X W).duties (sndC c t) 0 = {false} := by
  dsimp only [sch]; rw [if_pos ⟨rfl, rfl⟩]; refine if_pos ?_; have := tix_lt t; show tix t < 40; omega
theorem duties_rcv : (sch (F := F) X W).duties (rcvC c t) 0 = {false} := by
  dsimp only [sch]; rw [if_pos ⟨rfl, rfl⟩]; refine if_pos ?_; have := tix_lt t; show 20 + tix t < 40; omega
theorem duties_later (g : GSem nD τ sig) : ∀ r, 1 ≤ r → (sch (F := F) X W).duties g r = ∅ :=
  fun r hr => by dsimp only [sch]; exact if_neg fun h => by omega

theorem amount_bar (d : Bool) : (sch (F := F) X W).amount (barC c) 0 d = 1 := rfl
theorem amount_snd (d : Bool) : (sch (F := F) X W).amount (sndC c t) 0 d = Nt t := by
  show Nt (xfOf ((sndI t).val % 20)) = _; rw [snd_mod, xfOf_tix]
theorem amount_rcv (d : Bool) : (sch (F := F) X W).amount (rcvC c t) 0 d = Nt t := by
  show Nt (xfOf ((rcvI t).val % 20)) = _; rw [rcv_mod, xfOf_tix]

theorem expect_bar : (sch (F := F) X W).expect (barC c) 0 = 2 := by
  unfold Schedule.expect Schedule.amountOf
  rw [duties_bar, Finset.sum_congr rfl fun d _ => amount_bar X W c d, Finset.sum_const, Finset.card_univ, Fintype.card_bool, smul_eq_mul]
theorem expect_snd : (sch (F := F) X W).expect (sndC c t) 0 = Nt t := by
  unfold Schedule.expect Schedule.amountOf; rw [duties_snd, Finset.sum_singleton, amount_snd]
theorem expect_rcv : (sch (F := F) X W).expect (rcvC c t) 0 = Nt t := by
  unfold Schedule.expect Schedule.amountOf; rw [duties_rcv, Finset.sum_singleton, amount_rcv]

theorem payload_bar (d : Bool) : (sch (F := F) X W).payload (barC c) 0 d = barPay c d := rfl
theorem payload_snd (d : Bool) : (sch (F := F) X W).payload (sndC c t) 0 d = sndPay X W c t := by
  show (if (sndI t).val < 20 then sndPay X W c (xfOf ((sndI t).val % 20)) else rcvPay X W c (xfOf ((sndI t).val % 20))) = _
  rw [if_pos (show (sndI t).val < 20 from tix_lt t), snd_mod, xfOf_tix]
theorem payload_rcv (d : Bool) : (sch (F := F) X W).payload (rcvC c t) 0 d = rcvPay X W c t := by
  show (if (rcvI t).val < 20 then sndPay X W c (xfOf ((rcvI t).val % 20)) else rcvPay X W c (xfOf ((rcvI t).val % 20))) = _
  rw [if_neg (show ¬ (rcvI t).val < 20 from Nat.not_lt.mpr (Nat.le_add_right 20 _)), rcv_mod, xfOf_tix]

theorem rest_bar : bigSep ((sch (F := F) X W).duties (barC c) 0 \ ∅) (fun d => (sch (F := F) X W).payload (barC c) 0 d)
    = iprop(barPay c false ∗ barPay c true) := by
  rw [Finset.sdiff_empty, duties_bar, bigSep_univ_eq_bigSepL [false, true] (by decide) (by decide), bigSepL_cons_cons, bigSepL_singleton]
  rfl
theorem rest_snd : bigSep ((sch (F := F) X W).duties (sndC c t) 0 \ ∅) (fun d => (sch (F := F) X W).payload (sndC c t) 0 d)
    = sndPay X W c t := by
  rw [Finset.sdiff_empty, duties_snd, bigSep_singleton, payload_snd]
theorem rest_rcv : bigSep ((sch (F := F) X W).duties (rcvC c t) 0 \ ∅) (fun d => (sch (F := F) X W).payload (rcvC c t) 0 d)
    = rcvPay X W c t := by
  rw [Finset.sdiff_empty, duties_rcv, bigSep_singleton, payload_rcv]

end Sched

/-! ## What a device owes, and the levels -/

/-- The level of a transfer's receive cell. -/
def lvT : Xf → ℕ
  | .s1 _ _ => 2
  | .s2 _ _ => 3
  | .s3 _ _ => 4
  | .s4 _ _ => 5

def L (g : GSem nD τ sig) : Finset Unit := if g.1.2 = .tc then {()} else ∅
def lv (g : GSem nD τ sig) (_ : Unit) : ℕ :=
  match g.2 with
  | .reg _ => 1
  | .dma n => if 20 ≤ n.val ∧ n.val < 40 then lvT (xfOf (n.val % 20)) else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (t : Xf) : lv (rcvC c t) () = lvT t := by
  have := tix_lt t
  show (if 20 ≤ 20 + tix t ∧ 20 + tix t < 40 then lvT (xfOf ((rcvI t).val % 20)) else 0) = _
  rw [if_pos ⟨by omega, by omega⟩, rcv_mod, xfOf_tix]

/-- The credits of the transfers still to be sent, the next at the head. -/
def oweL (c : Dev nD) : List Xf → CellTallies nD τ sig Unit
  | [] => 0
  | t :: l => oweL c l + tallyAt (rcvC (tgt c t) t) () (Nt t)

theorem oweL_pos {c : Dev nD} {l : List Xf} {g : GSem nD τ sig} {u : Unit} (hp : 0 < oweL c l g u) :
    ∃ t ∈ l, g = rcvC (tgt c t) t := by
  induction l with
  | nil => exact absurd hp (Nat.lt_irrefl 0)
  | cons t l ih =>
    have hp : 0 < (oweL c l + tallyAt (rcvC (tgt c t) t) () (Nt t)) g u := hp
    rw [Pi.add_apply, Finsupp.add_apply, tallyAt_apply] at hp
    by_cases hg : g = rcvC (tgt c t) t ∧ u = ()
    · exact ⟨t, List.mem_cons_self, hg.1⟩
    · rw [if_neg hg] at hp
      obtain ⟨t', ht', hg'⟩ := ih hp
      exact ⟨t', List.mem_cons_of_mem _ ht', hg'⟩

omit [FloatOps F] in
/-- A device may wait on a cell below all it still owes. -/
theorem mayWait_ow (c : Dev nD) (sm : SemLoc sig) (l : List Xf)
    (hl : (l.all fun t => decide (lv ((c : Thread nD τ), sm) () < lvT t)) = true) :
    (levAts L lv : sProp 𝕄) ⊢ MayWait (c : Thread nD τ) sm () (oweL c l) :=
  MayOwe.of_cut (L := L) (lev := lv) (lv ((c : Thread nD τ), sm) ())
    (fun p hp => by rw [Finset.mem_singleton.mp hp, L_tc]; exact Finset.mem_singleton_self _)
    (fun g u hg => by obtain ⟨t, -, rfl⟩ := oweL_pos hg; exact Finset.mem_singleton_self _)
    (fun p hp => by rw [Finset.mem_singleton.mp hp])
    (fun g u hg => by
      obtain ⟨t, ht, rfl⟩ := oweL_pos hg
      rw [show lv (rcvC (tgt c t) t) u = lvT t from lv_rcv _ t]
      exact of_decide_eq_true (List.all_eq_true.mp hl t ht))

/-- The transfers in the order device `c` starts them. -/
def order (c : Dev nD) : List Xf :=
  [.s1 0 (no (q 0 c)), .s1 1 (q 1 c), .s1 0 (q 0 c), .s1 1 (no (q 1 c)), .s2 0 0, .s2 0 1, .s2 1 0, .s2 1 1,
   .s3 0 0, .s4 0 (k4 (q 0 c) 0), .s3 1 0, .s4 1 (k4 (q 1 c) 0), .s3 0 1, .s4 0 (k4 (q 0 c) 1), .s3 1 1, .s4 1 (k4 (q 1 c) 1),
   .s4 0 (k4 (no (q 0 c)) 0), .s4 1 (k4 (no (q 1 c)) 0), .s4 0 (k4 (no (q 0 c)) 1), .s4 1 (k4 (no (q 1 c)) 1)]

theorem order_nodup (c : Dev nD) : (order c).Nodup := by revert c; decide
theorem order_all (c : Dev nD) (t : Xf) : t ∈ order c := by revert c t; decide

/-- What it owes at launch: all its transfers' credits and a unit to each partner's barrier. -/
def O₁ (c : Dev nD) : CellTallies nD τ sig Unit := oweL c (order c) + tallyAt (barC (p2 c)) () 1
def O₀ (c : Dev nD) : CellTallies nD τ sig Unit := O₁ c + tallyAt (barC (p1 c)) () 1

end Cert.AllReduce

end
-- ==== Proof.Steps.lean ====
/-
The steps of the program, one rule each: a load or a store of a slot, a transfer started, landed or left, and a
copy out started or waited for.
-/
module

public import proofs.«01_k».proof.Proof.Proto
public import Idealize.ShloMosaic.Lib.Pipeline.Value
public import Idealize.ShloMosaic.Lib.Exec.Geometry
public import Idealize.ShloMosaic.Lib.VecWindow
public import Idealize.ShloMosaic.Lib.StableHlo.CollectiveRules

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

abbrev 𝒱₀ : Variants := Variants.none

/-- The weakest precondition of a program of device `c`'s TensorCore. -/
abbrev wpc (c : Dev nD) (p : Pg F) (Q : PUnit.{1} → sProp 𝕄) : sProp 𝕄 :=
  wp frame (wpE (defs₀ (F := F)) 𝒱₀ (c : Thread nD τ) none) Set.univ p Q

/-- A memref's memory owned at full share, whatever it holds. -/
def free (c : Dev nD) {sp : Space} {s : Shape} {e : EltTy} (m : Memref sig .tc sp s e) : sProp 𝕄 :=
  iprop(∃ Y, owns (c : Thread nD τ) m fullShare Y)

omit [FloatOps F] in
theorem free_intro (c : Dev nD) {sp : Space} {s : Shape} {e : EltTy} (m : Memref sig .tc sp s e) (Y : s.Idx → Elt F e) :
    (owns (c : Thread nD τ) m fullShare Y : sProp 𝕄) ⊢ free (F := F) c m := by
  unfold free; iintro H; iexists Y; iexact H

/-! ## Loads and stores -/

section Slots
variable {s s' : Shape} {e : EltTy} (c : Dev nD) (M : Memref sig .tc .vmem s e) (r : Rect s) (hr : ∀ a, r.stride a = 1)
  (hq : r.shape.Squeezes s')

/-- Load a squeezed slot: what it holds. -/
theorem wp_ld {qs : PosShare TreeShare} {Y : s'.Idx → Elt F e} {hl : M.view.LoadsAt r.toLoadRect} (hc : r.shape.ShapeCasts s')
    {k : (s'.Idx → Elt F e) → Pg F} {Q : PUnit.{1} → sProp 𝕄} :
    (owns (c : Thread nD τ) ((M.slice r hr).squeeze s' hq) qs Y : sProp 𝕄)
      ⊢ iprop((owns (c : Thread nD τ) ((M.slice r hr).squeeze s' hq) qs Y -∗ wpc c (k Y) Q)
          -∗ wpc c (.op (.load M r.toLoadRect hl) fun v => k (shapeCast s' v hc)) Q) := by
  unfold owns
  iintro ⟨%f, %hf, H⟩ Hk
  have hset : ((M.slice r hr).squeeze s' hq).view.set = M.view.setOn r.set :=
    (View.set_reshape _ _).trans (View.set_slice _ _)
  rw [hset]
  iapply (wp_load 𝒱₀ (c : Thread nD τ) none Set.univ (m := M) (r := r.toLoadRect) (S := M.view.setOn r.set) subset_rfl) $$ H
  iintro H
  rw [← Memref.read_squeeze_slice M r hr hq hc f, hf]
  iapply Hk
  iexists f; isplitr; · ipureintro; exact hf
  iexact H

/-- Store a squeezed slot, the store reading it first: it then holds what was stored. -/
theorem wp_st {hl : M.view.LoadsAt r.toLoadRect} (hc : r.shape.ShapeCasts s') (hc' : s'.ShapeCasts r.shape)
    {hx : (M.access r).Stores Finset.univ} {hm : Finset.univ = (Finset.univ : Finset r.shape.Idx) ∨ ∀ a, r.stride a = 1}
    (v : s'.Idx → Elt F e) {k : Pg F} {Q : PUnit.{1} → sProp 𝕄} :
    (free (F := F) c ((M.slice r hr).squeeze s' hq) : sProp 𝕄)
      ⊢ iprop((owns (c : Thread nD τ) ((M.slice r hr).squeeze s' hq) fullShare v -∗ wpc c k Q)
          -∗ wpc c (.op (.load M r.toLoadRect hl) fun _ => .op (.store M r (shapeCast r.shape v hc') Finset.univ hx hm) fun _ => k) Q) := by
  unfold free owns
  iintro ⟨%Y, %f, %hf, H⟩ Hk
  have hset : ((M.slice r hr).squeeze s' hq).view.set = M.view.setOn r.set :=
    (View.set_reshape _ _).trans (View.set_slice _ _)
  have hset' : (M.access r).setOn Finset.univ = M.view.setOn r.set := View.set_slice _ _
  rw [hset]
  iapply (wp_load 𝒱₀ (c : Thread nD τ) none Set.univ (m := M) (r := r.toLoadRect) (S := M.view.setOn r.set) subset_rfl) $$ H
  iintro H
  iapply (wp_store 𝒱₀ (c : Thread nD τ) none Set.univ (m := M) (r := r) (Mk := Finset.univ) (S := M.view.setOn r.set)
    (hset' ▸ subset_rfl)) $$ H
  iintro H
  iapply Hk
  iexists ((M.access r).write (Elt F) f (shapeCast r.shape v hc') Finset.univ); isplitr
  · ipureintro
    exact (congrArg (fun w => shapeCast s' w hc) (View.read_write_univ (v := M.access r) f (shapeCast r.shape v hc'))).trans
      (shapeCast_shapeCast v hc' hc)
  iexact H

end Slots

section Rules
variable (c : Dev nD) {qs : PosShare TreeShare}

theorem wp_ldA (m : Memref sig .tc .vmem S2x2x256x512 .bf16) (i j : Fin 2) {Y : FVec F S256x512 .bf16} {k : FVec F S256x512 .bf16 → Pg F} {Q : PUnit.{1} → sProp 𝕄} :
    (owns (c : Thread nD τ) (slA m i j) qs Y : sProp 𝕄)
      ⊢ iprop((owns (c : Thread nD τ) (slA m i j) qs Y -∗ wpc c (k Y) Q) -∗ wpc c (ldA m i j k) Q) :=
  wp_ld c m (rA i j) (fun _ => rfl) squeezes_S1x1x256x512_S256x512 shapeCasts_S1x1x256x512_S256x512
theorem wp_ldB (m : Memref sig .tc .vmem S2x2x128x512 .bf16) (i j : Fin 2) {Y : FVec F S128x512 .bf16} {k : FVec F S128x512 .bf16 → Pg F} {Q : PUnit.{1} → sProp 𝕄} :
    (owns (c : Thread nD τ) (slB m i j) qs Y : sProp 𝕄)
      ⊢ iprop((owns (c : Thread nD τ) (slB m i j) qs Y -∗ wpc c (k Y) Q) -∗ wpc c (ldB m i j k) Q) :=
  wp_ld c m (rB i j) (fun _ => rfl) squeezes_S1x1x128x512_S128x512 shapeCasts_S1x1x128x512_S128x512
theorem wp_ldC (m : Memref sig .tc .vmem S2x4x128x512 .bf16) (i : Fin 2) (j : Fin 4) {Y : FVec F S128x512 .bf16} {k : FVec F S128x512 .bf16 → Pg F} {Q : PUnit.{1} → sProp 𝕄} :
    (owns (c : Thread nD τ) (slC m i j) qs Y : sProp 𝕄)
      ⊢ iprop((owns (c : Thread nD τ) (slC m i j) qs Y -∗ wpc c (k Y) Q) -∗ wpc c (ldC m i j k) Q) :=
  wp_ld c m (rC i j) (fun _ => rfl) squeezes_S1x1x128x512_S128x512 shapeCasts_S1x1x128x512_S128x512

theorem wp_stA (m : Memref sig .tc .vmem S2x2x256x512 .bf16) (hm : m.IsWhole) (i j : Fin 2) (v : FVec F S256x512 .bf16) {k : Pg F} {Q : PUnit.{1} → sProp 𝕄} :
    (free (F := F) c (slA m i j) : sProp 𝕄)
      ⊢ iprop((owns (c : Thread nD τ) (slA m i j) fullShare v -∗ wpc c k Q) -∗ wpc c (stA m hm i j v k) Q) :=
  wp_st c m (rA i j) (fun _ => rfl) squeezes_S1x1x256x512_S256x512 shapeCasts_S1x1x256x512_S256x512 _ v
theorem wp_stB (m : Memref sig .tc .vmem S2x2x128x512 .bf16) (hm : m.IsWhole) (i j : Fin 2) (v : FVec F S128x512 .bf16) {k : Pg F} {Q : PUnit.{1} → sProp 𝕄} :
    (free (F := F) c (slB m i j) : sProp 𝕄)
      ⊢ iprop((owns (c : Thread nD τ) (slB m i j) fullShare v -∗ wpc c k Q) -∗ wpc c (stB m hm i j v k) Q) :=
  wp_st c m (rB i j) (fun _ => rfl) squeezes_S1x1x128x512_S128x512 shapeCasts_S1x1x128x512_S128x512 _ v

variable (X : Dev nD → Vec F S1024x256 .f32) (W : Dev nD → Vec F S256x1024 .f32)

/-- A quarter of `x` loaded. -/
theorem wp_ldX (a b : Fin 2) {k : Vec F S256x256 .f32 → Pg F} {Q : PUnit.{1} → sProp 𝕄} :
    (((c : Thread nD τ).loc cc0_scratch0) ↦{fullShare} X c : sProp 𝕄)
      ⊢ iprop(((((c : Thread nD τ).loc cc0_scratch0) ↦{fullShare} X c) -∗ wpc c (k (xr X c a b)) Q) -∗ wpc c (ldX a b k) Q) :=
  wp_load 𝒱₀ (c : Thread nD τ) none Set.univ (m := mX) (r := (rX a b).toLoadRect) (S := Finset.univ) (Finset.subset_univ _)
/-- A half of `w`. -/
theorem wp_ldW (i : Fin 2) {k : Vec F S256x512 .f32 → Pg F} {Q : PUnit.{1} → sProp 𝕄} :
    (((c : Thread nD τ).loc cc0_scratch1) ↦{fullShare} W c : sProp 𝕄)
      ⊢ iprop(((((c : Thread nD τ).loc cc0_scratch1) ↦{fullShare} W c) -∗ wpc c (k (wc W c i)) Q) -∗ wpc c (ldW i k) Q) :=
  wp_load 𝒱₀ (c : Thread nD τ) none Set.univ (m := mW) (r := (rW i).toLoadRect) (S := Finset.univ) (Finset.subset_univ _)

end Rules

/-! ## The transfers -/

section Transfers
variable (X : Dev nD → Vec F S1024x256 .f32) (W : Dev nD → Vec F S256x1024 .f32)
variable (K : Dev nD × KI → ℕ) (c : Dev nD)

/-- What all devices share: the cells' invariants, that each is at its round, and the levels. -/
def recs : sProp 𝕄 :=
  iprop(bigSep Finset.univ (fun x : Dev nD × KI => cellInv ER (sch X W) (K x) (kcell x.1 x.2))
    ∗ bigSep Finset.univ (fun x : Dev nD × KI => reached ER (kcell x.1 x.2) 0) ∗ levAts L lv)

instance recs_persistent : BI.Persistent (recs (F := F) X W K) := by unfold recs; infer_instance

omit [FloatOps F] in
theorem rec_elim {I : Type} [DecidableEq I] {s : Finset I} {i : I} (hi : i ∈ s) {Φ : I → sProp 𝕄} : (bigSep s Φ : sProp 𝕄) ⊢ Φ i :=
  bigSep_elim hi

theorem recs_inv (c : Dev nD) (k : KI) : recs (F := F) X W K ⊢ cellInv ER (sch X W) (K (c, k)) (kcell c k) := by
  unfold recs
  iintro ⟨H, -⟩
  iapply (rec_elim (Finset.mem_univ (c, k)) (Φ := fun x : Dev nD × KI => cellInv ER (sch X W) (K x) (kcell x.1 x.2))) $$ H
theorem recs_reached (c : Dev nD) (k : KI) : recs (F := F) X W K ⊢ reached ER (kcell c k) 0 := by
  unfold recs
  iintro ⟨-, H, -⟩
  iapply (rec_elim (Finset.mem_univ (c, k)) (Φ := fun x : Dev nD × KI => reached ER (kcell x.1 x.2) 0)) $$ H
theorem recs_lev : recs (F := F) X W K ⊢ levAts L lv := by
  unfold recs
  iintro ⟨-, -, H⟩
  iexact H

/-- What device `c` owes. -/
def ow (l : List Xf) : sProp 𝕄 := iprop(∃ Wt, owes (c : Thread nD τ) (oweL c l) Wt)

/-- The right to start a transfer; a transfer started; a transfer to be received. -/
def lic (t : Xf) : sProp 𝕄 := iprop(dutyTok ER (sndC c t) 0 false ∗ dutyTok ER (rcvC (tgt c t) t) 0 false ∗ atPos ER (sndC c t) 0 ∅ 0)
def sx (t : Xf) : sProp 𝕄 := iprop(cred (tallyAt (sndC c t) () (Nt t)) ∗ atPos ER (sndC c t) 0 ∅ 0)
def rx (t : Xf) : sProp 𝕄 := iprop(cred (tallyAt (rcvC c t) () (Nt t)) ∗ atPos ER (rcvC c t) 0 ∅ 0)

theorem wp_send (t : Xf) (l : List Xf) {k : Pg F} {Q : PUnit.{1} → sProp 𝕄} :
    recs (F := F) X W K ⊢ iprop(lic c t -∗ slot (tgt c t) t -∗ sndPay X W c t -∗ ow c (t :: l)
      -∗ ((sx c t ∗ ow c l) -∗ wpc c k Q) -∗ wpc c (send c t k) Q) := by
  unfold lic slot sndPay ow sx send owns
  iintro #HR ⟨HtS, HtV, Hat⟩ ⟨%Y, %fd, %hfd, Hd⟩ ⟨%fs, %hfs, Hs⟩ ⟨%Wt, HO⟩ Hk
  iapply (Rounds.wp_send_pointsTo 𝒱₀ ER (sch X W) (c : Thread nD τ) none (κ₁ := K (c, .inr (.inl t))) (κ₂ := K (tgt c t, .inr (.inr t)))
    (r₁ := 0) (r₂ := 0) (d₁ := false) (d₂ := false) (fs := fs) (fd := fd)
    (by rw [duties_snd]; exact Finset.mem_singleton_self _) (by rw [duties_rcv]; exact Finset.mem_singleton_self _)
    () () (Nt t) rfl (amount_snd X W c t false) (amount_rcv X W (tgt c t) t false) (oweL c l) rfl (W := Wt)
    (by rw [payload_snd]; unfold sndPay owns
        iintro H; iexists fs; isplitr; · ipureintro; exact hfs
        iexact H)
    (by rw [payload_rcv]; unfold rcvPay owns
        iintro H; iexists _; isplitr
        rotate_left
        · iexact H
        · ipureintro; rw [View.read_write_univ, tgt_tgt]; exact hfs)) $$ [HtS HtV Hs Hd HO]
  · isplitr; · iapply (recs_inv X W K c (.inr (.inl t))); iexact HR
    isplitr; · iapply (recs_inv X W K (tgt c t) (.inr (.inr t))); iexact HR
    isplitl [Hs]; · iexact Hs
    isplitl [Hd]; · iexact Hd
    isplitl [HO]; · iexact HO
    isplitl [HtS]; · iexact HtS
    isplitr; · iapply (recs_reached X W K c (.inr (.inl t))); iexact HR
    isplitl [HtV]; · iexact HtV
    iapply (recs_reached X W K (tgt c t) (.inr (.inr t))); iexact HR
  iintro ⟨Hc, HO⟩
  iapply Hk
  isplitl [Hc Hat]
  · isplitl [Hc]; · iexact Hc
    iexact Hat
  iexists Wt; iexact HO

theorem src_credit (t : Xf) : (src c t).view.dmaCredit = Nt t := by
  cases t with
  | s1 i j => rfl
  | s2 i j => rfl
  | s3 i j => rfl
  | s4 i k =>
    show (if kq k = q i c then slB sb3 i (ks k) else slB rb3 i (ks k)).view.dmaCredit = _
    split <;> rfl

theorem wp_recv (t : Xf) (l : List Xf) (hl : (l.all fun t' => decide (lvT t < lvT t')) = true) {k : Pg F} {Q : PUnit.{1} → sProp 𝕄} :
    recs (F := F) X W K ⊢ iprop(rx c t -∗ ow c l
      -∗ ((rcvPay X W c t ∗ semVal (rcvC c t) 0 ∗ ow c l) -∗ wpc c k Q) -∗ wpc c (recv c t k) Q) := by
  unfold rx ow recv
  iintro #HR ⟨Hc, Hat⟩ ⟨%Wt, HO⟩ Hk
  iapply (Rounds.wp_wait_rest_token 𝒱₀ ER (sch X W) (c : Thread nD τ) none (κ := K (c, .inr (.inr t)))
      (wpE_waitDma2_eq 𝒱₀ (c : Thread nD τ) none Set.univ) (Set.mem_univ _) () (O := oweL c l) (W := Wt) (R := 0) (m := 0) (T := ∅)
      (by rw [Nat.zero_add, expect_rcv]; rfl)) $$ [Hc HO Hat]
  · isplitr; · iapply (recs_inv X W K c (.inr (.inr t))); iexact HR
    isplitl [Hc]; · iexact Hc
    isplitl [HO]; · iexact HO
    isplitr
    · iapply (mayWait_ow c (.dma (rcvI t)) l (by rw [lv_rcv c t]; exact hl)); iapply (recs_lev X W K); iexact HR
    iexact Hat
  iintro ⟨HO, Hat, -, Hpay⟩
  ihave Hpay := (Entails.of_eq (rest_rcv X W c t)) $$ Hpay
  imod (Rounds.cell_close ER (sch X W) (Set.mem_univ (K (c, .inr (.inr t)))) (fun h => h) (R := 0 + 1) (duties_later X W (rcvC c t))) $$ [Hat] with Hz
  · isplitr; · iapply (recs_inv X W K c (.inr (.inr t))); iexact HR
    iexact Hat
  iapply Hk
  isplitl [Hpay]; · iexact Hpay
  isplitl [Hz]; · iexact Hz
  iexists _; iexact HO

theorem wp_sent (t : Xf) {k : Pg F} {Q : PUnit.{1} → sProp 𝕄} :
    recs (F := F) X W K ⊢ iprop(sx c t -∗ ow c []
      -∗ ((sndPay X W c t ∗ semVal (sndC c t) 0 ∗ ow c []) -∗ wpc c k Q) -∗ wpc c (sent c t k) Q) := by
  unfold sx ow sent
  rw [← src_credit c t]
  iintro #HR ⟨Hc, Hat⟩ ⟨%Wt, HO⟩ Hk
  iapply (Rounds.wp_wait_rest_token 𝒱₀ ER (sch X W) (c : Thread nD τ) none (κ := K (c, .inr (.inl t)))
      (wpE_waitDma2_eq 𝒱₀ (c : Thread nD τ) none Set.univ) (Set.mem_univ _) () (O := oweL c []) (W := Wt) (R := 0) (m := 0) (T := ∅)
      (k' := (src c t).view.dmaCredit) (by rw [Nat.zero_add, expect_snd, src_credit])) $$ [Hc HO Hat]
  · isplitr; · iapply (recs_inv X W K c (.inr (.inl t))); iexact HR
    isplitl [Hc]; · iexact Hc
    isplitl [HO]; · iexact HO
    isplitr
    · iapply (mayWait_ow c (.dma (sndI t)) [] rfl); iapply (recs_lev X W K); iexact HR
    iexact Hat
  iintro ⟨HO, Hat, -, Hpay⟩
  ihave Hpay := (Entails.of_eq (rest_snd X W c t)) $$ Hpay
  imod (Rounds.cell_close ER (sch X W) (Set.mem_univ (K (c, .inr (.inl t)))) (fun h => h) (R := 0 + 1) (duties_later X W (sndC c t))) $$ [Hat] with Hz
  · isplitr; · iapply (recs_inv X W K c (.inr (.inl t))); iexact HR
    iexact Hat
  iapply Hk
  isplitl [Hpay]; · iexact Hpay
  isplitl [Hz]; · iexact Hz
  iexists _; iexact HO

end Transfers

end Cert.AllReduce

end
-- ==== Proof.Stages.lean ====
/-
The program's pieces: a half put and sent, a quarter reduced and passed on, an eighth finished, forwarded, taken and
put out; the copies out; and the start, with the barrier.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

abbrev EC : UEmb Counters (MT nD τ sig Unit (Elt F) ℕ UU ℕ) := countersEmb (U := UU)

variable (X : Dev nD → Vec F S1024x256 .f32) (W : Dev nD → Vec F S256x1024 .f32)
variable (K : Dev nD × KI → ℕ) (c : Dev nD)

/-! ## The bundles -/

/-- A transfer that may be started: the right to it and the landing slot at its target. -/
def go (t : Xf) : sProp 𝕄 := iprop(lic (F := F) c t ∗ slot (tgt c t) t)

/-- The share of its landing slot a transfer leaves in the end: the eighths sent back go on by half. -/
def shl : Xf → PosShare TreeShare
  | .s3 _ _ => (fullShare : PosShare TreeShare).left
  | _ => fullShare

/-- A transfer received and done with; one sent and waited for. -/
def rdn (t : Xf) : sProp 𝕄 := iprop(owns (c : Thread nD τ) (dst t) (shl t) (val X W (tgt c t) t) ∗ semVal (rcvC c t) 0)
def sdn (t : Xf) : sProp 𝕄 := iprop(sndPay X W c t ∗ semVal (sndC c t) 0)

/-- The device's block of `x` in its scratch. -/
def xP : sProp 𝕄 := iprop(((c : Thread nD τ).loc cc0_scratch0) ↦{fullShare} X c)
def wP : sProp 𝕄 := iprop(((c : Thread nD τ).loc cc0_scratch1) ↦{fullShare} W c)

/-! ## The copies out -/

/-- The semaphore of a copy out, free. -/
def osem (n : Fin 16) : sProp 𝕄 := iprop(semVal ((c : Thread nD τ), (SemLoc.dma (outI n) : SemLoc sig)) 0)
/-- A place of the result, in the scratch and in the output. -/
def om (p : Fin 2 × Fin 4 × Fin 2) : sProp 𝕄 := free (F := F) c (slO mO p.1 p.2.1 p.2.2)
def oo (p : Fin 2 × Fin 4 × Fin 2) : sProp 𝕄 := free (F := F) c (slO aO p.1 p.2.1 p.2.2)

/-- A copy out under way. -/
def ofl (n : Fin 16) (p : Fin 2 × Fin 4 × Fin 2) : sProp 𝕄 :=
  iprop(∃ fs fd, ⌜(slO mO p.1 p.2.1 p.2.2).view.read (Elt F) fs = res X W c p.1 p.2.1 p.2.2⌝
    ∗ Flight EC (c : Thread nD τ) (.dma (outI n)) () ((slO aO p.1 p.2.1 p.2.2).view.dmaCredit)
      iprop(((slO aO p.1 p.2.1 p.2.2).view.loc (c : Thread nD τ) ↦[(slO aO p.1 p.2.1 p.2.2).view.set]{fullShare}
          (slO aO p.1 p.2.1 p.2.2).view.write (Elt F) fd ((slO mO p.1 p.2.1 p.2.2).view.read (Elt F) fs) Finset.univ)
        ∗ ((slO mO p.1 p.2.1 p.2.2).view.loc (c : Thread nD τ) ↦[(slO mO p.1 p.2.1 p.2.2).view.set]{fullShare} fs)))

/-- A place of the result put out. -/
def odn (p : Fin 2 × Fin 4 × Fin 2) : sProp 𝕄 := owns (c : Thread nD τ) (slO aO p.1 p.2.1 p.2.2) fullShare (res X W c p.1 p.2.1 p.2.2)

theorem wp_out (n : Fin 16) (a : Fin 2) (k : Fin 4) (i : Fin 2) (v : FVec F S128x512 .f32) (hv : v = res X W c a k i)
    {kk : Pg F} {Q : PUnit.{1} → sProp 𝕄} :
    osem (F := F) c n ⊢ iprop(om c (a, k, i) -∗ oo c (a, k, i) -∗ (ofl X W c n (a, k, i) -∗ wpc c kk Q) -∗ wpc c (out n a k i v kk) Q) := by
  subst hv
  unfold osem om oo ofl free owns out
  iintro Hz ⟨%Y, %f, %hf, Hm⟩ ⟨%Y', %fd, %hf', Ho⟩ Hk
  have hset : (slO mO a k i).view.set = mO.view.setOn (rO a k i).set := View.set_slice _ _
  have hset' : (mO.access (rO a k i)).setOn Finset.univ = mO.view.setOn (rO a k i).set := View.set_slice _ _
  rw [hset]
  iapply (wp_load 𝒱₀ (c : Thread nD τ) none Set.univ (m := mO) (r := (rO a k i).toLoadRect) (S := mO.view.setOn (rO a k i).set) subset_rfl) $$ Hm
  iintro Hm
  iapply (wp_store 𝒱₀ (c : Thread nD τ) none Set.univ (m := mO) (r := rO a k i) (Mk := Finset.univ) (S := mO.view.setOn (rO a k i).set)
    (hset' ▸ subset_rfl)) $$ Hm
  iintro Hm
  rw [← hset]
  iapply (wp_dmaLocal EC 𝒱₀ (c : Thread nD τ) none (src := slO mO a k i) (dst := slO aO a k i) (sm := .dma (outI n)) ()
    ((slO aO a k i).view.dmaCredit) rfl (View.dmaCredit_pos _ (by decide)) (Sd := (slO aO a k i).view.set) subset_rfl) $$ [Hm Ho Hz]
  · isplitl [Hm]; · iexact Hm
    isplitl [Ho]; · iexact Ho
    iexact Hz
  iintro Hf
  iapply Hk
  iexists _; iexists fd
  isplitr
  rotate_left
  · iexact Hf
  · ipureintro
    exact (View.read_write_univ (v := mO.access (rO a k i)) f _).trans (shapeCast_self _ _)

theorem wp_outW (n : Fin 16) (a : Fin 2) (k : Fin 4) (i : Fin 2) {kk : Pg F} {Q : PUnit.{1} → sProp 𝕄} :
    ofl X W c n (a, k, i) ⊢ iprop(ow c [] -∗ ((om c (a, k, i) ∗ odn X W c (a, k, i) ∗ osem c n ∗ ow c []) -∗ wpc c kk Q)
      -∗ wpc c (outW n a k i kk) Q) := by
  unfold osem om odn ofl free owns outW ow
  iintro ⟨%fs, %fd, %hfs, Hf⟩ ⟨%Wt, HO⟩ Hk
  iapply (wp_waitLocal EC 𝒱₀ (c : Thread nD τ) none () (sem := outI n) (srcw := slO mO a k i) (dstw := slO aO a k i) rfl) $$ [Hf HO]
  · isplitl [Hf]; · iexact Hf
    iexact HO
  iintro ⟨⟨Ho, Hm⟩, Hz, HO⟩
  iapply Hk
  isplitl [Hm]
  · iexists ((slO mO a k i).view.read (Elt F) fs); iexists fs; isplitr; · ipureintro; rfl
    iexact Hm
  isplitl [Ho]
  · iexists ((slO aO a k i).view.write (Elt F) fd ((slO mO a k i).view.read (Elt F) fs) Finset.univ); isplitr
    · ipureintro; rw [View.read_write_univ]; exact hfs
    iexact Ho
  isplitl [Hz]; · iexact Hz
  iexists _; iexact HO

/-! ## The exchanges -/

theorem wp_put (i j : Fin 2) {k : Pg F} {Q : PUnit.{1} → sProp 𝕄} :
    xP X c ⊢ iprop(free (F := F) c (slA sb1 i j) -∗ ((xP X c ∗ sndPay X W c (.s1 i j)) -∗ wpc c k Q)
      -∗ wpc c (put1 c (wb W c) i j k) Q) := by
  unfold put1
  iintro Hx Hf Hk
  iapply (wp_ldX c X (no (h i c)) j) $$ [Hx]; · unfold xP; iexact Hx
  iintro Hx
  iapply (wp_stA c sb1 (Memref.isWhole_whole _) i j _) $$ Hf
  iintro Hf
  iapply Hk
  isplitl [Hx]; · unfold xP; iexact Hx
  unfold sndPay; iexact Hf

theorem wp_go (t : Xf) (l : List Xf) {k : Pg F} {Q : PUnit.{1} → sProp 𝕄} :
    recs (F := F) X W K ⊢ iprop(go c t -∗ sndPay X W c t -∗ ow c (t :: l)
      -∗ ((sx c t ∗ ow c l) -∗ wpc c k Q) -∗ wpc c (send c t k) Q) := by
  unfold go
  iintro #HR ⟨Hl, Hs⟩ Hp HO Hk
  iapply (wp_send X W K c t l) $$ HR Hl Hs Hp HO
  iexact Hk

theorem wp_red2 (i : Fin 2) (l : List Xf) (hl : (l.all fun t' => decide (2 < lvT t')) = true) {k : Pg F} {Q : PUnit.{1} → sProp 𝕄} :
    recs (F := F) X W K ⊢ iprop(rx c (.s1 i (no (q i c))) -∗ free (F := F) c (slB sb2 i 0) -∗ free (F := F) c (slB sb2 i 1)
      -∗ go c (.s2 i 0) -∗ go c (.s2 i 1) -∗ ow c (.s2 i 0 :: .s2 i 1 :: l)
      -∗ ((rdn X W c (.s1 i (no (q i c))) ∗ sx c (.s2 i 0) ∗ sx c (.s2 i 1) ∗ ow c l) -∗ wpc c k Q)
      -∗ wpc c (red2 c i (dq X W c i (h i c) (no (q i c))) k) Q) := by
  unfold red2
  iintro #HR Hr Hf0 Hf1 Hg0 Hg1 HO Hk
  iapply (wp_recv X W K c (.s1 i (no (q i c))) (.s2 i 0 :: .s2 i 1 :: l) hl) $$ HR Hr HO
  iintro ⟨Hp, Hz, HO⟩
  unfold rcvPay
  iapply (wp_ldA c rb1 i (no (q i c)) (qs := fullShare) (Y := vA X W (pa i c) i (no (q i c)))) $$ [Hp]
  · iexact Hp
  iintro Hp
  iapply (wp_stB c sb2 (Memref.isWhole_whole _) i 0 _) $$ Hf0
  iintro Hf0
  iapply (wp_go X W K c (.s2 i 0) (.s2 i 1 :: l)) $$ HR Hg0 [Hf0] HO
  · unfold sndPay; iexact Hf0
  iintro ⟨Hs0, HO⟩
  iapply (wp_stB c sb2 (Memref.isWhole_whole _) i 1 _) $$ Hf1
  iintro Hf1
  iapply (wp_go X W K c (.s2 i 1) l) $$ HR Hg1 [Hf1] HO
  · unfold sndPay; iexact Hf1
  iintro ⟨Hs1, HO⟩
  iapply Hk
  unfold rdn
  isplitl [Hp Hz]
  · isplitl [Hp]; · iexact Hp
    iexact Hz
  isplitl [Hs0]; · iexact Hs0
  isplitl [Hs1]; · iexact Hs1
  iexact HO

theorem wp_red1 (i : Fin 2) (l : List Xf) (hl : (l.all fun t' => decide (2 < lvT t')) = true)
    {k : FVec F S256x512 .f32 → Pg F} {Q : PUnit.{1} → sProp 𝕄} :
    recs (F := F) X W K ⊢ iprop(rx c (.s1 i (q i c)) -∗ ow c l
      -∗ ((rdn X W c (.s1 i (q i c)) ∗ ow c l) -∗ wpc c (k (sm2 X W c i (q i c))) Q)
      -∗ wpc c (red1 c i (dq X W c i (h i c) (q i c)) k) Q) := by
  unfold red1
  iintro #HR Hr HO Hk
  iapply (wp_recv X W K c (.s1 i (q i c)) l hl) $$ HR Hr HO
  iintro ⟨Hp, Hz, HO⟩
  unfold rcvPay
  iapply (wp_ldA c rb1 i (q i c) (qs := fullShare) (Y := vA X W (pa i c) i (q i c))) $$ [Hp]
  · iexact Hp
  iintro Hp
  iapply Hk
  unfold rdn
  isplitl [Hp Hz]
  · isplitl [Hp]; · iexact Hp
    iexact Hz
  iexact HO

/-! ## The eighths -/

/-- A device's own finished eighth, as the source of its second transfer; one it was sent, likewise. -/
theorem src_own (i s : Fin 2) : src c (.s4 i (k4 (q i c) s)) = slB sb3 i s := by
  show (if kq (k4 (q i c) s) = q i c then slB sb3 i (ks (k4 (q i c) s)) else slB rb3 i (ks (k4 (q i c) s))) = _
  rw [if_pos (kq_k4 _ _), ks_k4]
theorem src_fwd (i s : Fin 2) : src c (.s4 i (k4 (no (q i c)) s)) = slB rb3 i s := by
  show (if kq (k4 (no (q i c)) s) = q i c then slB sb3 i (ks (k4 (no (q i c)) s)) else slB rb3 i (ks (k4 (no (q i c)) s))) = _
  rw [if_neg (by rw [kq_k4]; exact no_ne _), ks_k4]
theorem val_own (i s : Fin 2) : val X W c (.s4 i (k4 (q i c) s)) = vG X W c i s := by
  show vE X W c i _ = _
  unfold vE; rw [if_pos (kq_k4 _ _), ks_k4]
theorem val_fwd (i s : Fin 2) : val X W c (.s4 i (k4 (no (q i c)) s)) = vG X W (pb i c) i s := by
  show vE X W c i _ = _
  unfold vE; rw [if_neg (by rw [kq_k4]; exact no_ne _), ks_k4]
theorem pay_own (i s : Fin 2) :
    sndPay X W c (.s4 i (k4 (q i c) s)) = (owns (c : Thread nD τ) (slB sb3 i s) (fullShare : PosShare TreeShare).right (vG X W c i s) : sProp 𝕄) := by
  unfold sndPay; rw [val_own, src_own]; rfl
theorem pay_fwd (i s : Fin 2) :
    sndPay X W c (.s4 i (k4 (no (q i c)) s)) = (owns (c : Thread nD τ) (slB rb3 i s) (fullShare : PosShare TreeShare).right (vG X W (pb i c) i s) : sProp 𝕄) := by
  unfold sndPay; rw [val_fwd, src_fwd]; rfl

theorem res_own (i s : Fin 2) : fin X W c i s = res X W c (h i c) (k4 (q i c) s) i := by
  unfold res; rw [if_pos rfl, if_pos (kq_k4 _ _), ks_k4]
theorem res_fwd (i s : Fin 2) : toF (vG X W (pb i c) i s) = res X W c (h i c) (k4 (no (q i c)) s) i := by
  unfold res; rw [if_pos rfl, if_neg (by rw [kq_k4]; exact no_ne _), ks_k4]
theorem res_arr (i : Fin 2) (k : Fin 4) : toF (val X W (tgt c (.s4 i k)) (.s4 i k)) = res X W c (no (h i c)) k i := by
  unfold res; rw [if_neg (no_ne _)]; rfl

theorem wp_fin3 (n : Fin 16) (i s : Fin 2) (l : List Xf) (hl : (l.all fun t' => decide (3 < lvT t')) = true) {k : Pg F} {Q : PUnit.{1} → sProp 𝕄} :
    recs (F := F) X W K ⊢ iprop(rx c (.s2 i s) -∗ free (F := F) c (slB sb3 i s) -∗ go c (.s3 i s) -∗ go c (.s4 i (k4 (q i c) s))
      -∗ osem c n -∗ om c (h i c, k4 (q i c) s, i) -∗ oo c (h i c, k4 (q i c) s, i) -∗ ow c (.s3 i s :: .s4 i (k4 (q i c) s) :: l)
      -∗ ((rdn X W c (.s2 i s) ∗ sx c (.s3 i s) ∗ sx c (.s4 i (k4 (q i c) s)) ∗ ofl X W c n (h i c, k4 (q i c) s, i) ∗ ow c l) -∗ wpc c k Q)
      -∗ wpc c (fin3 c n i s (sm2 X W c i (q i c)) k) Q) := by
  unfold fin3
  iintro #HR Hr Hf Hg3 Hg4 Hn Hm Ho HO Hk
  iapply (wp_recv X W K c (.s2 i s) (.s3 i s :: .s4 i (k4 (q i c) s) :: l) hl) $$ HR Hr HO
  iintro ⟨Hp, Hz, HO⟩
  unfold rcvPay
  iapply (wp_ldB c rb2 i s (qs := fullShare) (Y := vB X W (pb i c) i s)) $$ [Hp]
  · iexact Hp
  iintro Hp
  iapply (wp_stB c sb3 (Memref.isWhole_whole _) i s _) $$ Hf
  iintro Hf
  ihave Hf := (owns_share (c : Thread nD τ) (slB sb3 i s) (PosShare.mem_left_op_right fullShare) _).1 $$ Hf
  icases Hf with ⟨HfL, HfR⟩
  iapply (wp_go X W K c (.s3 i s) (.s4 i (k4 (q i c) s) :: l)) $$ HR Hg3 [HfL] HO
  · unfold sndPay; iexact HfL
  iintro ⟨Hs3, HO⟩
  iapply (wp_go X W K c (.s4 i (k4 (q i c) s)) l) $$ HR Hg4 [HfR] HO
  · rw [pay_own]; iexact HfR
  iintro ⟨Hs4, HO⟩
  iapply (wp_out X W c n (h i c) (k4 (q i c) s) i _ (res_own X W c i s)) $$ Hn Hm Ho
  iintro Hfl
  iapply Hk
  unfold rdn
  isplitl [Hp Hz]
  · isplitl [Hp]; · iexact Hp
    iexact Hz
  isplitl [Hs3]; · iexact Hs3
  isplitl [Hs4]; · iexact Hs4
  isplitl [Hfl]; · iexact Hfl
  iexact HO

theorem wp_fwd (i s : Fin 2) (l : List Xf) (hl : (l.all fun t' => decide (4 < lvT t')) = true) {k : Pg F} {Q : PUnit.{1} → sProp 𝕄} :
    recs (F := F) X W K ⊢ iprop(rx c (.s3 i s) -∗ go c (.s4 i (k4 (no (q i c)) s)) -∗ ow c (.s4 i (k4 (no (q i c)) s) :: l)
      -∗ ((rdn X W c (.s3 i s) ∗ sx c (.s4 i (k4 (no (q i c)) s)) ∗ ow c l) -∗ wpc c k Q)
      -∗ wpc c (fwd c i s k) Q) := by
  unfold fwd
  iintro #HR Hr Hg4 HO Hk
  iapply (wp_recv X W K c (.s3 i s) (.s4 i (k4 (no (q i c)) s) :: l) hl) $$ HR Hr HO
  iintro ⟨Hp, Hz, HO⟩
  unfold rcvPay
  ihave Hp := (owns_share (c : Thread nD τ) (dst (.s3 i s)) (PosShare.mem_left_op_right fullShare) _).1 $$ Hp
  icases Hp with ⟨HpL, HpR⟩
  iapply (wp_go X W K c (.s4 i (k4 (no (q i c)) s)) l) $$ HR Hg4 [HpR] HO
  · rw [pay_fwd]; iexact HpR
  iintro ⟨Hs4, HO⟩
  iapply Hk
  unfold rdn
  isplitl [HpL Hz]
  · isplitl [HpL]; · iexact HpL
    iexact Hz
  isplitl [Hs4]; · iexact Hs4
  iexact HO

theorem wp_out3 (n : Fin 16) (i s : Fin 2) {k : Pg F} {Q : PUnit.{1} → sProp 𝕄} :
    rdn X W c (.s3 i s) ⊢ iprop(osem c n -∗ om c (h i c, k4 (no (q i c)) s, i) -∗ oo c (h i c, k4 (no (q i c)) s, i)
      -∗ ((rdn X W c (.s3 i s) ∗ ofl X W c n (h i c, k4 (no (q i c)) s, i)) -∗ wpc c k Q)
      -∗ wpc c (out3 c n i s k) Q) := by
  unfold out3 rdn
  iintro ⟨Hp, Hz⟩ Hn Hm Ho Hk
  iapply (wp_ldB c rb3 i s (qs := (fullShare : PosShare TreeShare).left) (Y := vG X W (pb i c) i s)) $$ [Hp]
  · iexact Hp
  iintro Hp
  iapply (wp_out X W c n (h i c) (k4 (no (q i c)) s) i _ (res_fwd X W c i s)) $$ Hn Hm Ho
  iintro Hfl
  iapply Hk
  isplitl [Hp Hz]
  · isplitl [Hp]; · iexact Hp
    iexact Hz
  iexact Hfl

theorem wp_arr4 (n : Fin 16) (i : Fin 2) (k : Fin 4) {kk : Pg F} {Q : PUnit.{1} → sProp 𝕄} :
    recs (F := F) X W K ⊢ iprop(rx c (.s4 i k) -∗ osem c n -∗ om c (no (h i c), k, i) -∗ oo c (no (h i c), k, i) -∗ ow c []
      -∗ ((rdn X W c (.s4 i k) ∗ ofl X W c n (no (h i c), k, i) ∗ ow c []) -∗ wpc c kk Q)
      -∗ wpc c (arr4 c n i k kk) Q) := by
  unfold arr4
  iintro #HR Hr Hn Hm Ho HO Hk
  iapply (wp_recv X W K c (.s4 i k) [] rfl) $$ HR Hr HO
  iintro ⟨Hp, Hz, HO⟩
  unfold rcvPay
  iapply (wp_ldC c rb4 i k (qs := fullShare) (Y := val X W (tgt c (.s4 i k)) (.s4 i k))) $$ [Hp]
  · iexact Hp
  iintro Hp
  iapply (wp_out X W c n (no (h i c)) k i _ (res_arr X W c i k)) $$ Hn Hm Ho
  iintro Hfl
  iapply Hk
  unfold rdn
  isplitl [Hp Hz]
  · isplitl [Hp]; · iexact Hp
    iexact Hz
  isplitl [Hfl]; · iexact Hfl
  iexact HO

theorem wp_sdn (t : Xf) {k : Pg F} {Q : PUnit.{1} → sProp 𝕄} :
    recs (F := F) X W K ⊢ iprop(sx c t -∗ ow c [] -∗ ((sdn X W c t ∗ ow c []) -∗ wpc c k Q) -∗ wpc c (sent c t k) Q) := by
  iintro #HR Hs HO Hk
  iapply (wp_sent X W K c t) $$ HR Hs HO
  iintro ⟨Hp, Hz, HO⟩
  iapply Hk
  unfold sdn
  isplitl [Hp Hz]
  · isplitl [Hp]; · iexact Hp
    iexact Hz
  iexact HO

end Cert.AllReduce

end
-- ==== Proof.Start.lean ====
/-
The start of the program: the two signals with the landing slots, the operands copied in, and the barrier.
-/
module

public import proofs.«01_k».proof.Proof.Stages

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (X : Dev nD → Vec F S1024x256 .f32) (W : Dev nD → Vec F S256x1024 .f32)
variable (K : Dev nD × KI → ℕ) (c : Dev nD)

/-! ## The landing slots, handed over by side -/

omit [FloatOps F] in
theorem sides (Φ : Xf → sProp 𝕄) : (bigSep Finset.univ Φ : sProp 𝕄)
    = iprop(bigSep (Finset.univ.filter fun t => side t = true) Φ ∗ bigSep (Finset.univ.filter fun t => side t = false) Φ) := by
  refine (bigSep_filter_split Finset.univ (fun t => side t = true)).trans ?_
  have he : (Finset.univ.filter fun t => ¬ side t = true) = (Finset.univ.filter fun t => side t = false) := by
    ext t; simp only [Finset.mem_filter, Finset.mem_univ, true_and, Bool.not_eq_true]
  rw [he]; rfl

omit [FloatOps F] in
theorem barPay_pd (b : Bool) : barPay (F := F) (pd c b) b = bigSep (Finset.univ.filter fun t => side t = b) (slot (F := F) c) := by
  unfold barPay; rw [pd_pd]

omit [FloatOps F] in
theorem barPay_slots : iprop(barPay (F := F) c false ∗ barPay c true) ⊢ bigSep Finset.univ (fun t => slot (F := F) (tgt c t) t) := by
  rw [sides]
  have hb (b : Bool) : barPay (F := F) c b = bigSep (Finset.univ.filter fun t => side t = b) (fun t => slot (F := F) (tgt c t) t) := by
    unfold barPay
    refine bigSep_congr fun t ht => ?_
    rw [tgt_side, (Finset.mem_filter.mp ht).2]
  rw [hb, hb]
  iintro ⟨H0, H1⟩
  isplitl [H1]; · iexact H1
  iexact H0

/-! ## The barrier -/

theorem wp_bar (l : List Xf) (hl : (l.all fun t' => decide (1 < lvT t')) = true) {k : Pg F} {Q : PUnit.{1} → sProp 𝕄} :
    recs (F := F) X W K ⊢ iprop(cred (tallyAt (barC c) () 2) -∗ atPos ER (barC c) 0 ∅ 0 -∗ ow c l
      -∗ ((bigSep Finset.univ (fun t => slot (tgt c t) t) ∗ semVal (barC c) 0 ∗ ow c l) -∗ wpc c k Q)
      -∗ wpc c (.op (.semWait barS ((2 : ℕ) : ℤ)) fun _ => k) Q) := by
  unfold ow
  iintro #HR Hc Hat ⟨%Wt, HO⟩ Hk
  iapply (Rounds.wp_wait_rest_token 𝒱₀ ER (sch X W) (c : Thread nD τ) none (κ := K (c, .inl ()))
      (wpE_semWait_eq 𝒱₀ (c : Thread nD τ) none Set.univ) (Set.mem_univ _) () (O := oweL c l) (W := Wt) (R := 0) (m := 0) (T := ∅)
      (k' := 2) (by rw [Nat.zero_add, expect_bar])) $$ [Hc HO Hat]
  · isplitr; · iapply (recs_inv X W K c (.inl ())); iexact HR
    isplitl [Hc]; · iexact Hc
    isplitl [HO]; · iexact HO
    isplitr
    · iapply (mayWait_ow c (.reg barS) l hl); iapply (recs_lev X W K); iexact HR
    iexact Hat
  iintro ⟨HO, Hat, -, Hpay⟩
  ihave Hpay := (Entails.of_eq (rest_bar X W c)) $$ Hpay
  ihave Hpay := (barPay_slots c) $$ Hpay
  imod (Rounds.cell_close ER (sch X W) (Set.mem_univ (K (c, .inl ()))) (fun h => h) (R := 0 + 1) (duties_later X W (barC c))) $$ [Hat] with Hz
  · isplitr; · iapply (recs_inv X W K c (.inl ())); iexact HR
    iexact Hat
  iapply Hk
  isplitl [Hpay]; · iexact Hpay
  isplitl [Hz]; · iexact Hz
  iexists _; iexact HO

theorem wp_sig (b : Bool) (O : CellTallies nD τ sig Unit) {k : Pg F} {Q : PUnit.{1} → sProp 𝕄} :
    recs (F := F) X W K ⊢ iprop((∃ Wt, owes (c : Thread nD τ) (O + tallyAt (barC (pd c b)) () 1) Wt) -∗ dutyTok ER (barC (pd c b)) 0 b
      -∗ bigSep (Finset.univ.filter fun t => side t = b) (slot c)
      -∗ ((∃ Wt, owes (c : Thread nD τ) O Wt) -∗ wpc c k Q)
      -∗ wpc c (.op (.semSignal (Dev.tc (pd c b)) barS ((1 : ℕ) : ℤ)) fun _ => k) Q) := by
  iintro #HR ⟨%Wt, HO⟩ Ht Hs Hk
  iapply (Rounds.wp_signal 𝒱₀ ER (sch X W) (c : Thread nD τ) none (dst := (pd c b : Thread nD τ)) (κ := K (pd c b, .inl ()))
      (d := b) (by rw [duties_bar]; exact Finset.mem_univ _) (amount_bar X W (pd c b) b) () O rfl (W := Wt)) $$ [HO Ht Hs]
  · isplitr; · iapply (recs_inv X W K (pd c b) (.inl ())); iexact HR
    isplitl [HO]; · iexact HO
    isplitl [Ht]; · iexact Ht
    isplitl [Hs]; · rw [payload_bar, barPay_pd]; iexact Hs
    iapply (recs_reached X W K (pd c b) (.inl ())); iexact HR
  iintro HO
  iapply Hk
  iexists Wt; iexact HO

/-! ## The start -/

omit [FloatOps F] in
theorem pts_whole (b : Ref sig .tc) (qs : PosShare TreeShare) (f : Buf (Elt F) ((c : Thread nD τ).loc b)) :
    ((Memref.whole b).view.loc (c : Thread nD τ) ↦[(Memref.whole b).view.set]{qs} f : sProp 𝕄)
      = (((c : Thread nD τ).loc b) ↦{qs} f : sProp 𝕄) := by
  have hs : (Memref.whole b).view.set = Finset.univ := View.set_whole _
  rw [hs]

/-- The operands and the semaphores of their copies. -/
def opnd : sProp 𝕄 := iprop((((c : Thread nD τ).loc main_arg0) ↦{fullShare} X c) ∗ (((c : Thread nD τ).loc main_arg1) ↦{fullShare} W c))
def isem (n : Fin 2) : sProp 𝕄 := iprop(semVal ((c : Thread nD τ), (SemLoc.dma (inI n) : SemLoc sig)) 0)

theorem wp_head {k : (Fin 2 → FVec F S256x512 .bf16) → Pg F} {Q : PUnit.{1} → sProp 𝕄} :
    recs (F := F) X W K ⊢ iprop((∃ Wt, owes (c : Thread nD τ) (O₀ c) Wt) -∗ dutyTok ER (barC (p1 c)) 0 false -∗ dutyTok ER (barC (p2 c)) 0 true
      -∗ bigSep Finset.univ (slot c) -∗ opnd X W c -∗ free (F := F) c mX -∗ free (F := F) c mW -∗ isem c 0 -∗ isem c 1
      -∗ ((ow c (order c) ∗ opnd X W c ∗ xP X c ∗ wP W c ∗ isem c 0 ∗ isem c 1) -∗ wpc c (k (wb W c)) Q)
      -∗ wpc c (head c k) Q) := by
  iintro #HR HO Ht1 Ht2 Hs Harg Hx Hw Hz0 Hz1 Hk
  unfold head opnd isem free owns
  icases Harg with ⟨Ha0, Ha1⟩
  icases Hx with ⟨%Yx, %fx, %hx, Hx⟩
  icases Hw with ⟨%Yw, %fw, %hw, Hw⟩
  ihave Hs := (Entails.of_eq (sides (slot (F := F) c))) $$ Hs
  icases Hs with ⟨Hs2, Hs1⟩
  iapply (wp_sig X W K c false (O₁ c)) $$ HR [HO] [Ht1] Hs1
  · iexact HO
  · iexact Ht1
  iintro HO
  iapply (wp_sig X W K c true (oweL c (order c))) $$ HR [HO] [Ht2] Hs2
  · iexact HO
  · iexact Ht2
  iintro ⟨%Wt, HO⟩
  iapply (wp_dmaLocal EC 𝒱₀ (c : Thread nD τ) none (src := aW) (dst := mW) (sm := .dma (inI 0)) ()
    (mW.view.dmaCredit) rfl (View.dmaCredit_pos _ (by decide)) (Sd := mW.view.set) (fs := W c) (q := fullShare) subset_rfl) $$ [Ha1 Hw Hz0]
  · isplitl [Ha1]; · iapply (Entails.of_eq (pts_whole c main_arg1 fullShare (W c)).symm) $$ Ha1
    isplitl [Hw]; · iexact Hw
    iexact Hz0
  iintro Hf0
  iapply (wp_dmaLocal EC 𝒱₀ (c : Thread nD τ) none (src := aX) (dst := mX) (sm := .dma (inI 1)) ()
    (mX.view.dmaCredit) rfl (View.dmaCredit_pos _ (by decide)) (Sd := mX.view.set) (fs := X c) (q := fullShare) subset_rfl) $$ [Ha0 Hx Hz1]
  · isplitl [Ha0]; · iapply (Entails.of_eq (pts_whole c main_arg0 fullShare (X c)).symm) $$ Ha0
    isplitl [Hx]; · iexact Hx
    iexact Hz1
  iintro Hf1
  iapply (wp_waitLocalO EC 𝒱₀ (c : Thread nD τ) none () (sem := inI 0) (srcw := aW) (dstw := mW) rfl) $$ [Hf0 HO]
  · isplitl [Hf0]; · iexact Hf0
    isplitl [HO]; · iexact HO
    iapply (mayWait_ow c (.dma (inI 0)) (order c) rfl); iapply (recs_lev X W K); iexact HR
  iintro ⟨⟨Hw, Ha1⟩, Hz0, HO⟩
  have hW : mW.view.write (Elt F) fw (aW.view.read (Elt F) (W c)) Finset.univ = W c  := View.write_whole_univ _ _ _
  have hX : mX.view.write (Elt F) fx (aX.view.read (Elt F) (X c)) Finset.univ = X c  := View.write_whole_univ _ _ _
  ihave Hw := (Entails.of_eq ((pts_whole c cc0_scratch1 fullShare _).trans (congrArg _ hW))) $$ Hw
  iapply (wp_ldW c W 0) $$ Hw
  iintro Hw
  iapply (wp_ldW c W 1) $$ Hw
  iintro Hw
  iapply (wp_waitLocalO EC 𝒱₀ (c : Thread nD τ) none () (sem := inI 1) (srcw := aX) (dstw := mX) rfl) $$ [Hf1 HO]
  · isplitl [Hf1]; · iexact Hf1
    isplitl [HO]; · iexact HO
    iapply (mayWait_ow c (.dma (inI 1)) (order c) rfl); iapply (recs_lev X W K); iexact HR
  iintro ⟨⟨Hx, Ha0⟩, Hz1, HO⟩
  ihave Hx := (Entails.of_eq ((pts_whole c cc0_scratch0 fullShare _).trans (congrArg _ hX))) $$ Hx
  iapply Hk
  isplitl [HO]; · unfold ow; iexists _; iexact HO
  isplitl [Ha0 Ha1]
  · isplitl [Ha0]
    · iapply (Entails.of_eq (pts_whole c main_arg0 fullShare (X c))) $$ Ha0
    · iapply (Entails.of_eq (pts_whole c main_arg1 fullShare (W c))) $$ Ha1
  isplitl [Hx]; · unfold xP; iexact Hx
  isplitl [Hw]; · unfold wP; iexact Hw
  isplitl [Hz0]; · iexact Hz0
  iexact Hz1

end Cert.AllReduce

end
-- ==== Proof.Tail.lean ====
/-
The program after the operands are read: its five stages and the waits at the end.
-/
module

public import proofs.«01_k».proof.Proof.Start
public import Idealize.ShloMosaic.Lib.Pipeline.BigSepL

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (X : Dev nD → Vec F S1024x256 .f32) (W : Dev nD → Vec F S256x1024 .f32)
variable (K : Dev nD × KI → ℕ) (c : Dev nD)

/-! ## The lists -/

section Lists
variable {I : Type}

omit [FloatOps F] in
theorem list4 (a b d e : I) (Φ : I → sProp 𝕄) : bigSepL [a, b, d, e] Φ = iprop(Φ a ∗ Φ b ∗ Φ d ∗ Φ e) := rfl
omit [FloatOps F] in
theorem list8 (a b d e a' b' d' e' : I) (Φ : I → sProp 𝕄) :
    bigSepL [a, b, d, e, a', b', d', e'] Φ = iprop(Φ a ∗ Φ b ∗ Φ d ∗ Φ e ∗ Φ a' ∗ Φ b' ∗ Φ d' ∗ Φ e') := rfl

omit [FloatOps F] in
theorem list_sep (l : List I) (Φ Ψ : I → sProp 𝕄) : bigSepL l (fun x => iprop(Φ x ∗ Ψ x)) = iprop(bigSepL l Φ ∗ bigSepL l Ψ) := by
  induction l with
  | nil => exact (equiv_iff.mp emp_sep).symm
  | cons x l ih =>
    rw [bigSepL_cons', bigSepL_cons', bigSepL_cons', ih]
    show BI.sep (BI.sep _ _) (BI.sep _ _) = BI.sep (BI.sep _ _) (BI.sep _ _)
    ac_rfl

end Lists

/-- The transfers by stage, in the order they are started; then in the order they are received. -/
def o1 : List Xf := [.s1 0 (no (q 0 c)), .s1 1 (q 1 c), .s1 0 (q 0 c), .s1 1 (no (q 1 c))]
def o2 : List Xf := [.s2 0 0, .s2 0 1, .s2 1 0, .s2 1 1]
def o3 : List Xf :=
  [.s3 0 0, .s4 0 (k4 (q 0 c) 0), .s3 1 0, .s4 1 (k4 (q 1 c) 0), .s3 0 1, .s4 0 (k4 (q 0 c) 1), .s3 1 1, .s4 1 (k4 (q 1 c) 1)]
def o4 : List Xf := [.s4 0 (k4 (no (q 0 c)) 0), .s4 1 (k4 (no (q 1 c)) 0), .s4 0 (k4 (no (q 0 c)) 1), .s4 1 (k4 (no (q 1 c)) 1)]
def r1 : List Xf := [.s1 0 (no (q 0 c)), .s1 1 (no (q 1 c)), .s1 0 (q 0 c), .s1 1 (q 1 c)]
def r2 : List Xf := [.s2 0 0, .s2 1 0, .s2 0 1, .s2 1 1]
def r3 : List Xf := [.s3 0 0, .s3 1 0, .s3 0 1, .s3 1 1]
def r4 : List (Fin 16 × Fin 2 × Fin 4) :=
  [(8, 0, k4 (qp 0 c) 0), (9, 1, k4 (qp 1 c) 0), (10, 0, k4 (qp 0 c) 1), (11, 1, k4 (qp 1 c) 1),
   (12, 0, k4 (no (qp 0 c)) 0), (13, 1, k4 (no (qp 1 c)) 0), (14, 0, k4 (no (qp 0 c)) 1), (15, 1, k4 (no (qp 1 c)) 1)]
/-- A column half's transfers. -/
def dl (i : Fin 2) : List Xf := [.s1 i 0, .s2 i 0, .s3 i 0, .s1 i 1, .s2 i 1, .s3 i 1, .s4 i 0, .s4 i 1, .s4 i 2, .s4 i 3]
/-- The copies out of the third and the fourth stage, and all of them: the semaphore and the place. -/
def u3 : List (Fin 16 × Fin 2 × Fin 4 × Fin 2) :=
  [(0, h 0 c, k4 (q 0 c) 0, 0), (1, h 1 c, k4 (q 1 c) 0, 1), (2, h 0 c, k4 (q 0 c) 1, 0), (3, h 1 c, k4 (q 1 c) 1, 1)]
def u4 : List (Fin 16 × Fin 2 × Fin 4 × Fin 2) :=
  [(4, h 0 c, k4 (no (q 0 c)) 0, 0), (5, h 1 c, k4 (no (q 1 c)) 0, 1), (6, h 0 c, k4 (no (q 0 c)) 1, 0), (7, h 1 c, k4 (no (q 1 c)) 1, 1)]
def u5 : List (Fin 16 × Fin 2 × Fin 4 × Fin 2) := (r4 c).map fun x => (x.1, no (h x.2.1 c), x.2.2, x.2.1)
def uL : List (Fin 16 × Fin 2 × Fin 4 × Fin 2) := u3 c ++ (u4 c ++ u5 c)

omit [FloatOps F] in
theorem univ_order (Φ : Xf → sProp 𝕄) : (bigSep Finset.univ Φ : sProp 𝕄)
    = iprop(bigSepL (o1 c) Φ ∗ bigSepL o2 Φ ∗ bigSepL (o3 c) Φ ∗ bigSepL (o4 c) Φ) := by
  rw [bigSep_univ_eq_bigSepL (order c) (Finset.ext fun t => by simp only [Finset.mem_univ, List.mem_toFinset, order_all]) (order_nodup c),
    show order c = o1 c ++ (o2 ++ (o3 c ++ o4 c)) from rfl, bigSepL_append, bigSepL_append, bigSepL_append]

omit [FloatOps F] in
theorem univ_recv (Φ : Xf → sProp 𝕄) : (bigSep Finset.univ Φ : sProp 𝕄)
    = iprop(bigSepL (r1 c) Φ ∗ bigSepL r2 Φ ∗ bigSepL r3 Φ ∗ bigSepL (r4 c) fun x => Φ (.s4 x.2.1 x.2.2)) := by
  rw [bigSep_univ_eq_bigSepL (r1 c ++ (r2 ++ (r3 ++ (r4 c).map fun x => Xf.s4 x.2.1 x.2.2))) (by revert c; decide) (by revert c; decide),
    bigSepL_append, bigSepL_append, bigSepL_append, bigSepL_map]

omit [FloatOps F] in
theorem univ_drain (Φ : Xf → sProp 𝕄) : (bigSep Finset.univ Φ : sProp 𝕄) = iprop(bigSepL (dl 0) Φ ∗ bigSepL (dl 1) Φ) := by
  rw [bigSep_univ_eq_bigSepL (dl 0 ++ dl 1) (by decide) (by decide), bigSepL_append]

omit [FloatOps F] in
theorem univ_sem (Φ : Fin 16 → sProp 𝕄) : (bigSep Finset.univ Φ : sProp 𝕄) = bigSepL (uL c) fun x => Φ x.1 := by
  rw [bigSep_univ_eq_bigSepL ((uL c).map fun x => x.1) (by revert c; decide) (by revert c; decide), bigSepL_map]
omit [FloatOps F] in
theorem univ_place (Φ : Fin 2 × Fin 4 × Fin 2 → sProp 𝕄) : (bigSep Finset.univ Φ : sProp 𝕄) = bigSepL (uL c) fun x => Φ x.2 := by
  rw [bigSep_univ_eq_bigSepL ((uL c).map fun x => x.2) (by revert c; decide) (by revert c; decide), bigSepL_map]

/-! ## The stages -/

theorem wp_stage1 {k : Pg F} {Q : PUnit.{1} → sProp 𝕄} :
    recs (F := F) X W K ⊢ iprop(cred (tallyAt (barC c) () 2) -∗ atPos ER (barC c) 0 ∅ 0 -∗ bigSep Finset.univ (lic c) -∗ xP X c
      -∗ bigSep Finset.univ (fun p : Fin 2 × Fin 2 => free (F := F) c (slA sb1 p.1 p.2)) -∗ ow c (order c)
      -∗ ((bigSepL (o1 c) (sx c) ∗ bigSepL o2 (go c) ∗ bigSepL (o3 c) (go c) ∗ bigSepL (o4 c) (go c) ∗ xP X c
            ∗ semVal (barC c) 0 ∗ ow c (o2 ++ (o3 c ++ o4 c))) -∗ wpc c k Q)
      -∗ wpc c (stage1 c (wb W c) k) Q) := by
  rw [bigSep_univ_eq_bigSepL [(0, no (q 0 c)), (1, q 1 c), (0, q 0 c), (1, no (q 1 c))] (by revert c; decide) (by revert c; decide), list4]
  unfold stage1
  iintro #HR Hc Hat Hl Hx ⟨Hf0, Hf1, Hf2, Hf3⟩ HO Hk
  iapply (wp_put X W c 0 (no (q 0 c))) $$ Hx Hf0
  iintro ⟨Hx, Hp⟩
  iapply (wp_bar X W K c (order c) rfl) $$ HR Hc Hat HO
  iintro ⟨Hs, Hz, HO⟩
  ihave Hg := (Entails.of_eq (bigSep_sep' (Finset.univ : Finset Xf) (lic (F := F) c) (fun t => slot (tgt c t) t)).symm) $$ [Hl Hs]
  · isplitl [Hl]; · iexact Hl
    iexact Hs
  ihave Hg := (Entails.of_eq (univ_order c (go (F := F) c))) $$ [Hg]; · iexact Hg
  icases Hg with ⟨Hg1, Hg2, Hg3, Hg4⟩
  ihave Hg1 := (Entails.of_eq (list4 _ _ _ _ (go (F := F) c))) $$ [Hg1]; · iexact Hg1
  icases Hg1 with ⟨Ha, Hb, Hd, He⟩
  iapply (wp_go X W K c (.s1 0 (no (q 0 c))) ((order c).drop 1)) $$ HR Ha Hp [HO]; · iexact HO
  iintro ⟨Ha, HO⟩
  iapply (wp_put X W c 1 (q 1 c)) $$ Hx Hf1
  iintro ⟨Hx, Hp⟩
  iapply (wp_go X W K c (.s1 1 (q 1 c)) ((order c).drop 2)) $$ HR Hb Hp [HO]; · iexact HO
  iintro ⟨Hb, HO⟩
  iapply (wp_put X W c 0 (q 0 c)) $$ Hx Hf2
  iintro ⟨Hx, Hp⟩
  iapply (wp_go X W K c (.s1 0 (q 0 c)) ((order c).drop 3)) $$ HR Hd Hp [HO]; · iexact HO
  iintro ⟨Hd, HO⟩
  iapply (wp_put X W c 1 (no (q 1 c))) $$ Hx Hf3
  iintro ⟨Hx, Hp⟩
  iapply (wp_go X W K c (.s1 1 (no (q 1 c))) ((order c).drop 4)) $$ HR He Hp [HO]; · iexact HO
  iintro ⟨He, HO⟩
  iapply Hk
  unfold o1; rw [list4]
  isplitl [Ha Hb Hd He]
  · isplitl [Ha]; · iexact Ha
    isplitl [Hb]; · iexact Hb
    isplitl [Hd]; · iexact Hd
    iexact He
  isplitl [Hg2]; · iexact Hg2
  isplitl [Hg3]; · iexact Hg3
  isplitl [Hg4]; · iexact Hg4
  isplitl [Hx]; · iexact Hx
  isplitl [Hz]; · iexact Hz
  iexact HO

theorem wp_stage2 {k : FVec F S256x512 .f32 → FVec F S256x512 .f32 → Pg F} {Q : PUnit.{1} → sProp 𝕄} :
    recs (F := F) X W K ⊢ iprop(bigSepL o2 (go c) -∗ bigSepL (r1 c) (rx c) -∗ xP X c
      -∗ bigSep Finset.univ (fun p : Fin 2 × Fin 2 => free (F := F) c (slB sb2 p.1 p.2)) -∗ ow c (o2 ++ (o3 c ++ o4 c))
      -∗ ((bigSepL o2 (sx c) ∗ bigSepL (r1 c) (rdn X W c) ∗ xP X c ∗ ow c (o3 c ++ o4 c))
          -∗ wpc c (k (sm2 X W c 0 (q 0 c)) (sm2 X W c 1 (q 1 c))) Q)
      -∗ wpc c (stage2 c (wb W c) k) Q) := by
  rw [bigSep_univ_eq_bigSepL [(0, 0), (0, 1), (1, 0), (1, 1)] (by decide) (by decide), list4]
  unfold stage2 xP
  iintro #HR Hg Hr Hx ⟨Hf0, Hf1, Hf2, Hf3⟩ HO Hk
  ihave Hg := (Entails.of_eq (list4 _ _ _ _ (go (F := F) c))) $$ [Hg]; · iexact Hg
  icases Hg with ⟨Hg0, Hg1, Hg2, Hg3⟩
  ihave Hr := (Entails.of_eq (list4 _ _ _ _ (rx (F := F) c))) $$ [Hr]; · iexact Hr
  icases Hr with ⟨Hr0, Hr1, Hr2, Hr3⟩
  iapply (wp_ldX c X (h 0 c) (no (q 0 c))) $$ Hx
  iintro Hx
  iapply (wp_ldX c X (h 1 c) (no (q 1 c))) $$ Hx
  iintro Hx
  iapply (wp_ldX c X (h 0 c) (q 0 c)) $$ Hx
  iintro Hx
  iapply (wp_ldX c X (h 1 c) (q 1 c)) $$ Hx
  iintro Hx
  iapply (wp_red2 X W K c 0 ([.s2 1 0, .s2 1 1] ++ (o3 c ++ o4 c)) rfl) $$ HR Hr0 Hf0 Hf1 Hg0 Hg1 [HO]; · iexact HO
  iintro ⟨Hd0, Hs0, Hs1, HO⟩
  iapply (wp_red2 X W K c 1 (o3 c ++ o4 c) rfl) $$ HR Hr1 Hf2 Hf3 Hg2 Hg3 [HO]; · iexact HO
  iintro ⟨Hd1, Hs2, Hs3, HO⟩
  iapply (wp_red1 X W K c 0 (o3 c ++ o4 c) rfl) $$ HR Hr2 HO
  iintro ⟨Hd2, HO⟩
  iapply (wp_red1 X W K c 1 (o3 c ++ o4 c) rfl) $$ HR Hr3 HO
  iintro ⟨Hd3, HO⟩
  iapply Hk
  unfold o2 r1; rw [list4, list4]
  isplitl [Hs0 Hs1 Hs2 Hs3]
  · isplitl [Hs0]; · iexact Hs0
    isplitl [Hs1]; · iexact Hs1
    isplitl [Hs2]; · iexact Hs2
    iexact Hs3
  isplitl [Hd0 Hd1 Hd2 Hd3]
  · isplitl [Hd0]; · iexact Hd0
    isplitl [Hd1]; · iexact Hd1
    isplitl [Hd2]; · iexact Hd2
    iexact Hd3
  isplitl [Hx]; · iexact Hx
  iexact HO

/-- A copy out that may be started: its semaphore and its place in the scratch and in the output. -/
def urd (x : Fin 16 × Fin 2 × Fin 4 × Fin 2) : sProp 𝕄 := iprop(osem (F := F) c x.1 ∗ om c x.2 ∗ oo c x.2)
/-- One under way; one done. -/
def ufl (x : Fin 16 × Fin 2 × Fin 4 × Fin 2) : sProp 𝕄 := ofl X W c x.1 x.2
def udn (x : Fin 16 × Fin 2 × Fin 4 × Fin 2) : sProp 𝕄 := iprop(om (F := F) c x.2 ∗ odn X W c x.2 ∗ osem c x.1)

theorem wp_fin3' (n : Fin 16) (i s : Fin 2) (l : List Xf) (hl : (l.all fun t' => decide (3 < lvT t')) = true) {k : Pg F} {Q : PUnit.{1} → sProp 𝕄} :
    recs (F := F) X W K ⊢ iprop(rx c (.s2 i s) -∗ free (F := F) c (slB sb3 i s) -∗ go c (.s3 i s) -∗ go c (.s4 i (k4 (q i c) s))
      -∗ urd c (n, h i c, k4 (q i c) s, i) -∗ ow c (.s3 i s :: .s4 i (k4 (q i c) s) :: l)
      -∗ ((rdn X W c (.s2 i s) ∗ sx c (.s3 i s) ∗ sx c (.s4 i (k4 (q i c) s)) ∗ ufl X W c (n, h i c, k4 (q i c) s, i) ∗ ow c l) -∗ wpc c k Q)
      -∗ wpc c (fin3 c n i s (sm2 X W c i (q i c)) k) Q) := by
  unfold urd ufl
  iintro #HR Hr Hf Hg3 Hg4 ⟨Hn, Hm, Ho⟩ HO Hk
  iapply (wp_fin3 X W K c n i s l hl) $$ HR Hr Hf Hg3 Hg4 Hn Hm Ho HO
  iexact Hk

theorem wp_stage3 {k : Pg F} {Q : PUnit.{1} → sProp 𝕄} :
    recs (F := F) X W K ⊢ iprop(bigSepL (o3 c) (go c) -∗ bigSepL r2 (rx c)
      -∗ bigSep Finset.univ (fun p : Fin 2 × Fin 2 => free (F := F) c (slB sb3 p.1 p.2)) -∗ bigSepL (u3 c) (urd c) -∗ ow c (o3 c ++ o4 c)
      -∗ ((bigSepL (o3 c) (sx c) ∗ bigSepL r2 (rdn X W c) ∗ bigSepL (u3 c) (ufl X W c) ∗ ow c (o4 c)) -∗ wpc c k Q)
      -∗ wpc c (stage3 c (sm2 X W c 0 (q 0 c)) (sm2 X W c 1 (q 1 c)) k) Q) := by
  rw [bigSep_univ_eq_bigSepL [(0, 0), (1, 0), (0, 1), (1, 1)] (by decide) (by decide), list4]
  unfold stage3
  iintro #HR Hg Hr ⟨Hf0, Hf1, Hf2, Hf3⟩ Hu HO Hk
  ihave Hg := (Entails.of_eq (list8 _ _ _ _ _ _ _ _ (go (F := F) c))) $$ [Hg]; · iexact Hg
  icases Hg with ⟨Hg0, Hg1, Hg2, Hg3, Hg4, Hg5, Hg6, Hg7⟩
  ihave Hr := (Entails.of_eq (list4 _ _ _ _ (rx (F := F) c))) $$ [Hr]; · iexact Hr
  icases Hr with ⟨Hr0, Hr1, Hr2, Hr3⟩
  ihave Hu := (Entails.of_eq (list4 _ _ _ _ (urd (F := F) c))) $$ [Hu]; · iexact Hu
  icases Hu with ⟨Hu0, Hu1, Hu2, Hu3⟩
  iapply (wp_fin3' X W K c 0 0 0 ((o3 c).drop 2 ++ o4 c) rfl) $$ HR Hr0 Hf0 Hg0 Hg1 Hu0 [HO]; · iexact HO
  iintro ⟨Hr0, Hg0, Hg1, Hu0, HO⟩
  iapply (wp_fin3' X W K c 1 1 0 ((o3 c).drop 4 ++ o4 c) rfl) $$ HR Hr1 Hf1 Hg2 Hg3 Hu1 [HO]; · iexact HO
  iintro ⟨Hr1, Hg2, Hg3, Hu1, HO⟩
  iapply (wp_fin3' X W K c 2 0 1 ((o3 c).drop 6 ++ o4 c) rfl) $$ HR Hr2 Hf2 Hg4 Hg5 Hu2 [HO]; · iexact HO
  iintro ⟨Hr2, Hg4, Hg5, Hu2, HO⟩
  iapply (wp_fin3' X W K c 3 1 1 (o4 c) rfl) $$ HR Hr3 Hf3 Hg6 Hg7 Hu3 [HO]; · iexact HO
  iintro ⟨Hr3, Hg6, Hg7, Hu3, HO⟩
  iapply Hk
  unfold o3 r2 u3; rw [list8, list4, list4]
  isplitl [Hg0 Hg1 Hg2 Hg3 Hg4 Hg5 Hg6 Hg7]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  isplitl [Hr0 Hr1 Hr2 Hr3]
  · isplitl [Hr0]; · iexact Hr0
    isplitl [Hr1]; · iexact Hr1
    isplitl [Hr2]; · iexact Hr2
    iexact Hr3
  isplitl [Hu0 Hu1 Hu2 Hu3]
  · isplitl [Hu0]; · iexact Hu0
    isplitl [Hu1]; · iexact Hu1
    isplitl [Hu2]; · iexact Hu2
    iexact Hu3
  iexact HO

theorem wp_out3' (n : Fin 16) (i s : Fin 2) {k : Pg F} {Q : PUnit.{1} → sProp 𝕄} :
    rdn X W c (.s3 i s) ⊢ iprop(urd c (n, h i c, k4 (no (q i c)) s, i)
      -∗ ((rdn X W c (.s3 i s) ∗ ufl X W c (n, h i c, k4 (no (q i c)) s, i)) -∗ wpc c k Q)
      -∗ wpc c (out3 c n i s k) Q) := by
  unfold urd ufl
  iintro Hr ⟨Hn, Hm, Ho⟩ Hk
  iapply (wp_out3 X W c n i s) $$ Hr Hn Hm Ho
  iexact Hk

theorem wp_stage4 {k : Pg F} {Q : PUnit.{1} → sProp 𝕄} :
    recs (F := F) X W K ⊢ iprop(bigSepL (o4 c) (go c) -∗ bigSepL r3 (rx c) -∗ bigSepL (u4 c) (urd c) -∗ ow c (o4 c)
      -∗ ((bigSepL (o4 c) (sx c) ∗ bigSepL r3 (rdn X W c) ∗ bigSepL (u4 c) (ufl X W c) ∗ ow c []) -∗ wpc c k Q)
      -∗ wpc c (stage4 c k) Q) := by
  unfold stage4
  iintro #HR Hg Hr Hu HO Hk
  ihave Hg := (Entails.of_eq (list4 _ _ _ _ (go (F := F) c))) $$ [Hg]; · iexact Hg
  icases Hg with ⟨Hg0, Hg1, Hg2, Hg3⟩
  ihave Hr := (Entails.of_eq (list4 _ _ _ _ (rx (F := F) c))) $$ [Hr]; · iexact Hr
  icases Hr with ⟨Hr0, Hr1, Hr2, Hr3⟩
  ihave Hu := (Entails.of_eq (list4 _ _ _ _ (urd (F := F) c))) $$ [Hu]; · iexact Hu
  icases Hu with ⟨Hu0, Hu1, Hu2, Hu3⟩
  iapply (wp_fwd X W K c 0 0 ((o4 c).drop 1) rfl) $$ HR Hr0 Hg0 [HO]; · iexact HO
  iintro ⟨Hr0, Hg0, HO⟩
  iapply (wp_fwd X W K c 1 0 ((o4 c).drop 2) rfl) $$ HR Hr1 Hg1 [HO]; · iexact HO
  iintro ⟨Hr1, Hg1, HO⟩
  iapply (wp_out3' X W c 4 0 0) $$ Hr0 Hu0
  iintro ⟨Hr0, Hu0⟩
  iapply (wp_out3' X W c 5 1 0) $$ Hr1 Hu1
  iintro ⟨Hr1, Hu1⟩
  iapply (wp_fwd X W K c 0 1 ((o4 c).drop 3) rfl) $$ HR Hr2 Hg2 [HO]; · iexact HO
  iintro ⟨Hr2, Hg2, HO⟩
  iapply (wp_fwd X W K c 1 1 [] rfl) $$ HR Hr3 Hg3 [HO]; · iexact HO
  iintro ⟨Hr3, Hg3, HO⟩
  iapply (wp_out3' X W c 6 0 1) $$ Hr2 Hu2
  iintro ⟨Hr2, Hu2⟩
  iapply (wp_out3' X W c 7 1 1) $$ Hr3 Hu3
  iintro ⟨Hr3, Hu3⟩
  iapply Hk
  unfold o4 r3 u4; rw [list4, list4, list4]
  isplitl [Hg0 Hg1 Hg2 Hg3]
  · isplitl [Hg0]; · iexact Hg0
    isplitl [Hg1]; · iexact Hg1
    isplitl [Hg2]; · iexact Hg2
    iexact Hg3
  isplitl [Hr0 Hr1 Hr2 Hr3]
  · isplitl [Hr0]; · iexact Hr0
    isplitl [Hr1]; · iexact Hr1
    isplitl [Hr2]; · iexact Hr2
    iexact Hr3
  isplitl [Hu0 Hu1 Hu2 Hu3]
  · isplitl [Hu0]; · iexact Hu0
    isplitl [Hu1]; · iexact Hu1
    isplitl [Hu2]; · iexact Hu2
    iexact Hu3
  iexact HO

/-! ## The fifth stage and the waits at the end, along their lists -/

/-- The place an eighth of the other half is put out to. -/
def u5x (x : Fin 16 × Fin 2 × Fin 4) : Fin 16 × Fin 2 × Fin 4 × Fin 2 := (x.1, no (h x.2.1 c), x.2.2, x.2.1)

theorem wp_arrs (l : List (Fin 16 × Fin 2 × Fin 4)) {k : Pg F} {Q : PUnit.{1} → sProp 𝕄} :
    recs (F := F) X W K ⊢ iprop(bigSepL l (fun x => rx c (.s4 x.2.1 x.2.2)) -∗ bigSepL l (fun x => urd c (u5x c x)) -∗ ow c []
      -∗ ((bigSepL l (fun x => rdn X W c (.s4 x.2.1 x.2.2)) ∗ bigSepL l (fun x => ufl X W c (u5x c x)) ∗ ow c []) -∗ wpc c k Q)
      -∗ wpc c (l.foldr (fun x => arr4 c x.1 x.2.1 x.2.2) k) Q) := by
  induction l with
  | nil =>
    iintro #HR Hr Hu HO Hk
    iapply Hk
    isplitl [Hr]; · iexact Hr
    isplitl [Hu]; · iexact Hu
    iexact HO
  | cons x l ih =>
    rw [bigSepL_cons', bigSepL_cons', bigSepL_cons', bigSepL_cons', List.foldr_cons]
    unfold urd ufl u5x
    iintro #HR ⟨Hr, Hrs⟩ ⟨⟨Hn, Hm, Ho⟩, Hus⟩ HO Hk
    iapply (wp_arr4 X W K c x.1 x.2.1 x.2.2) $$ HR Hr Hn Hm Ho HO
    iintro ⟨Hr, Hu, HO⟩
    iapply ih $$ HR Hrs [Hus] HO
    · unfold urd u5x; iexact Hus
    iintro ⟨Hrs, Hus, HO⟩
    iapply Hk
    isplitl [Hr Hrs]
    · isplitl [Hr]; · iexact Hr
      iexact Hrs
    isplitl [Hu Hus]
    · isplitl [Hu]; · iexact Hu
      iexact Hus
    iexact HO

theorem wp_stage5 {k : Pg F} {Q : PUnit.{1} → sProp 𝕄} :
    recs (F := F) X W K ⊢ iprop(bigSepL (r4 c) (fun x => rx c (.s4 x.2.1 x.2.2)) -∗ bigSepL (u5 c) (urd c) -∗ ow c []
      -∗ ((bigSepL (r4 c) (fun x => rdn X W c (.s4 x.2.1 x.2.2)) ∗ bigSepL (u5 c) (ufl X W c) ∗ ow c []) -∗ wpc c k Q)
      -∗ wpc c (stage5 c k) Q) := by
  rw [show u5 c = (r4 c).map (u5x c) from rfl, bigSepL_map, bigSepL_map]
  exact wp_arrs X W K c (r4 c)

theorem wp_sents (l : List Xf) {k : Pg F} {Q : PUnit.{1} → sProp 𝕄} :
    recs (F := F) X W K ⊢ iprop(bigSepL l (sx c) -∗ ow c [] -∗ ((bigSepL l (sdn X W c) ∗ ow c []) -∗ wpc c k Q)
      -∗ wpc c (l.foldr (sent c) k) Q) := by
  induction l with
  | nil =>
    iintro #HR Hr HO Hk
    iapply Hk
    isplitl [Hr]; · iexact Hr
    iexact HO
  | cons t l ih =>
    rw [bigSepL_cons', bigSepL_cons', List.foldr_cons]
    iintro #HR ⟨Hs, Hss⟩ HO Hk
    iapply (wp_sdn X W K c t) $$ HR Hs HO
    iintro ⟨Hs, HO⟩
    iapply ih $$ HR Hss HO
    iintro ⟨Hss, HO⟩
    iapply Hk
    isplitl [Hs Hss]
    · isplitl [Hs]; · iexact Hs
      iexact Hss
    iexact HO

theorem wp_outWs (l : List (Fin 16 × Fin 2 × Fin 4 × Fin 2)) {k : Pg F} {Q : PUnit.{1} → sProp 𝕄} :
    bigSepL l (ufl X W c) ⊢ iprop(ow c [] -∗ ((bigSepL l (udn X W c) ∗ ow c []) -∗ wpc c k Q)
      -∗ wpc c (l.foldr (fun x => outW x.1 x.2.1 x.2.2.1 x.2.2.2) k) Q) := by
  induction l with
  | nil =>
    iintro Hr HO Hk
    iapply Hk
    isplitl [Hr]; · iexact Hr
    iexact HO
  | cons x l ih =>
    rw [bigSepL_cons', bigSepL_cons', List.foldr_cons]
    iintro ⟨Hu, Hus⟩ HO Hk
    iapply (wp_outW X W c x.1 x.2.1 x.2.2.1 x.2.2.2) $$ [Hu] HO
    · unfold ufl; iexact Hu
    iintro ⟨Hm, Hd, Hn, HO⟩
    iapply ih $$ Hus HO
    iintro ⟨Hus, HO⟩
    iapply Hk
    unfold udn
    isplitl [Hm Hd Hn Hus]
    · isplitl [Hm Hd Hn]
      · isplitl [Hm]; · iexact Hm
        isplitl [Hd]; · iexact Hd
        iexact Hn
      iexact Hus
    iexact HO

/-! ## The whole -/

/-- What a device has after the barrier's start, and at the end. -/
def pre : sProp 𝕄 :=
  iprop(cred (tallyAt (barC c) () 2) ∗ atPos ER (barC c) 0 ∅ 0 ∗ bigSep Finset.univ (lic (F := F) c) ∗ bigSep Finset.univ (rx (F := F) c)
    ∗ bigSep Finset.univ (fun p : Fin 2 × Fin 2 => free (F := F) c (slA sb1 p.1 p.2))
    ∗ bigSep Finset.univ (fun p : Fin 2 × Fin 2 => free (F := F) c (slB sb2 p.1 p.2))
    ∗ bigSep Finset.univ (fun p : Fin 2 × Fin 2 => free (F := F) c (slB sb3 p.1 p.2))
    ∗ bigSep Finset.univ (osem (F := F) c) ∗ bigSep Finset.univ (om (F := F) c) ∗ bigSep Finset.univ (oo (F := F) c))
def post : sProp 𝕄 :=
  iprop(semVal (barC c) 0 ∗ bigSep Finset.univ (sdn X W c) ∗ bigSep Finset.univ (rdn X W c)
    ∗ bigSep Finset.univ (osem (F := F) c) ∗ bigSep Finset.univ (om (F := F) c) ∗ bigSep Finset.univ (odn X W c))

theorem wp_tail {Q : PUnit.{1} → sProp 𝕄} :
    recs (F := F) X W K ⊢ iprop(pre c -∗ xP X c -∗ ow c (order c)
      -∗ ((post X W c ∗ xP X c ∗ ow c []) -∗ wpc c (.ret ⟨⟩) Q) -∗ wpc c (tail c (wb W c)) Q) := by
  unfold pre post tail
  rw [univ_recv c (rx (F := F) c), univ_sem c (osem (F := F) c), univ_place c (om (F := F) c), univ_place c (oo (F := F) c)]
  iintro #HR ⟨Hc, Hat, Hl, ⟨Hr1, Hr2, Hr3, Hr4⟩, Hf1, Hf2, Hf3, Hn, Hm, Ho⟩ Hx HO Hk
  ihave Hu : bigSepL (uL c) (urd (F := F) c) $$ [Hn Hm Ho]
  · unfold urd; rw [list_sep, list_sep]
    isplitl [Hn]; · iexact Hn
    isplitl [Hm]; · iexact Hm
    iexact Ho
  ihave Hu := (Entails.of_eq (show bigSepL (uL c) (urd (F := F) c) = iprop(bigSepL (u3 c) (urd c) ∗ bigSepL (u4 c) (urd c) ∗ bigSepL (u5 c) (urd c)) by
    unfold uL; rw [bigSepL_append, bigSepL_append])) $$ Hu
  icases Hu with ⟨Hu3, Hu4, Hu5⟩
  iapply (wp_stage1 X W K c) $$ HR Hc Hat Hl Hx Hf1 HO
  iintro ⟨Hs1, Hg2, Hg3, Hg4, Hx, Hz, HO⟩
  iapply (wp_stage2 X W K c) $$ HR Hg2 Hr1 Hx Hf2 HO
  iintro ⟨Hs2, Hr1, Hx, HO⟩
  iapply (wp_stage3 X W K c) $$ HR Hg3 Hr2 Hf3 Hu3 HO
  iintro ⟨Hs3, Hr2, Hu3, HO⟩
  iapply (wp_stage4 X W K c) $$ HR Hg4 Hr3 Hu4 HO
  iintro ⟨Hs4, Hr3, Hu4, HO⟩
  iapply (wp_stage5 X W K c) $$ HR Hr4 Hu5 HO
  iintro ⟨Hr4, Hu5, HO⟩
  ihave Hs := (Entails.of_eq ((univ_order c (sx (F := F) c)).symm.trans (univ_drain (sx (F := F) c)))) $$ [Hs1 Hs2 Hs3 Hs4]
  · isplitl [Hs1]; · iexact Hs1
    isplitl [Hs2]; · iexact Hs2
    isplitl [Hs3]; · iexact Hs3
    iexact Hs4
  icases Hs with ⟨Hs0, Hs1⟩
  iapply (wp_sents X W K c (dl 0)) $$ HR Hs0 HO
  iintro ⟨Hs0, HO⟩
  iapply (wp_sents X W K c (dl 1)) $$ HR Hs1 HO
  iintro ⟨Hs1, HO⟩
  ihave Hu := (Entails.of_eq (show iprop(bigSepL (u3 c) (ufl X W c) ∗ bigSepL (u4 c) (ufl X W c) ∗ bigSepL (u5 c) (ufl X W c)) = bigSepL (uL c) (ufl X W c) by
    unfold uL; rw [bigSepL_append, bigSepL_append])) $$ [Hu3 Hu4 Hu5]
  · isplitl [Hu3]; · iexact Hu3
    isplitl [Hu4]; · iexact Hu4
    iexact Hu5
  iapply (wp_outWs X W c (uL c)) $$ Hu HO
  iintro ⟨Hu, HO⟩
  iapply Hk
  isplitr [Hx HO]
  rotate_left
  · isplitl [Hx]; · iexact Hx
    iexact HO
  isplitl [Hz]; · iexact Hz
  isplitl [Hs0 Hs1]
  · rw [univ_drain]
    isplitl [Hs0]; · iexact Hs0
    iexact Hs1
  isplitl [Hr1 Hr2 Hr3 Hr4]
  · rw [univ_recv c (rdn X W c)]
    isplitl [Hr1]; · iexact Hr1
    isplitl [Hr2]; · iexact Hr2
    isplitl [Hr3]; · iexact Hr3
    iexact Hr4
  rw [univ_place c (odn X W c)]
  ihave Hu := (Entails.of_eq (show bigSepL (uL c) (udn X W c) = iprop((bigSepL (uL c) fun x => om (F := F) c x.2) ∗ (bigSepL (uL c) fun x => odn X W c x.2) ∗ (bigSepL (uL c) fun x => osem (F := F) c x.1)) by
    unfold udn; rw [list_sep, list_sep])) $$ Hu
  icases Hu with ⟨Hm, Hd, Hn⟩
  isplitl [Hn]; · iexact Hn
  isplitl [Hm]; · iexact Hm
  iexact Hd

end Cert.AllReduce

end
-- ==== Proof.Slots.lean ====
/-
The buffers as their slots: taken apart before the transfers, put together after them.
-/
module

public import proofs.«01_k».proof.Proof.Tail

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-! ## Boxes of a four-axis array, and of the result -/

section Boxes
variable {m0 m1 n0 n1 : ℕ}

/-- The box at place `(i, j)` of the two leading axes. -/
abbrev box (inb : ∀ (i : Fin m0) (j : Fin m1), ∀ a, (![i.val, j.val, 0, 0] : Fin 4 → ℕ) a + (![1, 1, n0, n1] : Fin 4 → ℕ) a
    ≤ (⟨4, ![m0, m1, n0, n1]⟩ : Shape).size a) (p : Fin m0 × Fin m1) : Rect ⟨4, ![m0, m1, n0, n1]⟩ :=
  Rect.unit ![p.1.val, p.2.val, 0, 0] ![1, 1, n0, n1] (inb p.1 p.2)

theorem box_disj (inb) (p p' : Fin m0 × Fin m1) (hp : p ≠ p') :
    Disjoint (box (n0 := n0) (n1 := n1) inb p).set (box (n0 := n0) (n1 := n1) inb p').set := by
  by_cases h : p.1 = p'.1
  · have h2 : p.2.val ≠ p'.2.val := fun h2 => hp (Prod.ext h (Fin.ext h2))
    refine Rect.unit_disjoint (1 : Fin 4) ?_
    show p.2.val + 1 ≤ p'.2.val ∨ p'.2.val + 1 ≤ p.2.val
    omega
  · have h1 : p.1.val ≠ p'.1.val := fun h1 => h (Fin.ext h1)
    refine Rect.unit_disjoint (0 : Fin 4) ?_
    show p.1.val + 1 ≤ p'.1.val ∨ p'.1.val + 1 ≤ p.1.val
    omega

theorem box_cover (inb) : (Finset.univ : Finset (Fin m0 × Fin m1)).biUnion (fun p => (box (n0 := n0) (n1 := n1) inb p).set) = Finset.univ := by
  refine Finset.eq_univ_iff_forall.mpr fun x => Finset.mem_biUnion.mpr ⟨(x (0 : Fin 4), x (1 : Fin 4)), Finset.mem_univ _, ?_⟩
  refine Rect.mem_set_unit.mpr fun a => ?_
  have h2 : (x (2 : Fin 4)).val < n0 := (x (2 : Fin 4)).isLt
  have h3 : (x (3 : Fin 4)).val < n1 := (x (3 : Fin 4)).isLt
  match a with
  | (0 : Fin 4) => exact ⟨le_refl (x (0 : Fin 4)).val, Nat.lt_succ_self (x (0 : Fin 4)).val⟩
  | (1 : Fin 4) => exact ⟨le_refl (x (1 : Fin 4)).val, Nat.lt_succ_self (x (1 : Fin 4)).val⟩
  | (2 : Fin 4) => exact ⟨Nat.zero_le _, by show (x (2 : Fin 4)).val < 0 + n0; omega⟩
  | (3 : Fin 4) => exact ⟨Nat.zero_le _, by show (x (3 : Fin 4)).val < 0 + n1; omega⟩

end Boxes

/-- The places of the result are disjoint and cover it. -/
theorem placeDisj (p p' : Fin 2 × Fin 4 × Fin 2) (hp : p ≠ p') : Disjoint (rO p.1 p.2.1 p.2.2).set (rO p'.1 p'.2.1 p'.2.2).set := by
  by_cases h : p.2.2 = p'.2.2
  · have h2 : 512 * p.1.val + 128 * p.2.1.val ≠ 512 * p'.1.val + 128 * p'.2.1.val := fun h2 =>
      hp (Prod.ext (Fin.ext (by omega)) (Prod.ext (Fin.ext (by omega)) h))
    refine Rect.unit_disjoint (0 : Fin 2) ?_
    show 512 * p.1.val + 128 * p.2.1.val + 128 ≤ 512 * p'.1.val + 128 * p'.2.1.val
      ∨ 512 * p'.1.val + 128 * p'.2.1.val + 128 ≤ 512 * p.1.val + 128 * p.2.1.val
    omega
  · have h1 : p.2.2.val ≠ p'.2.2.val := fun h1 => h (Fin.ext h1)
    refine Rect.unit_disjoint (1 : Fin 2) ?_
    show 512 * p.2.2.val + 512 ≤ 512 * p'.2.2.val ∨ 512 * p'.2.2.val + 512 ≤ 512 * p.2.2.val
    omega

/-- The place an element of the result lies in. -/
def placeOf (x : S1024x1024.Idx) : Fin 2 × Fin 4 × Fin 2 :=
  (⟨(x (0 : Fin 2)).val / 512 % 2, Nat.mod_lt _ (by decide)⟩, ⟨(x (0 : Fin 2)).val / 128 % 4, Nat.mod_lt _ (by decide)⟩,
    ⟨(x (1 : Fin 2)).val / 512 % 2, Nat.mod_lt _ (by decide)⟩)

theorem mem_placeOf (x : S1024x1024.Idx) : x ∈ (rO (placeOf x).1 (placeOf x).2.1 (placeOf x).2.2).set := by
  refine Rect.mem_set_unit.mpr fun a => ?_
  have h0 : (x (0 : Fin 2)).val < 1024 := (x (0 : Fin 2)).isLt
  have h1 : (x (1 : Fin 2)).val < 1024 := (x (1 : Fin 2)).isLt
  match a with
  | (0 : Fin 2) =>
    show 512 * ((x (0 : Fin 2)).val / 512 % 2) + 128 * ((x (0 : Fin 2)).val / 128 % 4) ≤ (x (0 : Fin 2)).val
      ∧ (x (0 : Fin 2)).val < 512 * ((x (0 : Fin 2)).val / 512 % 2) + 128 * ((x (0 : Fin 2)).val / 128 % 4) + 128
    omega
  | (1 : Fin 2) =>
    show 512 * ((x (1 : Fin 2)).val / 512 % 2) ≤ (x (1 : Fin 2)).val ∧ (x (1 : Fin 2)).val < 512 * ((x (1 : Fin 2)).val / 512 % 2) + 512
    omega

theorem placeCover : (Finset.univ : Finset (Fin 2 × Fin 4 × Fin 2)).biUnion (fun p => (rO p.1 p.2.1 p.2.2).set) = Finset.univ :=
  Finset.eq_univ_iff_forall.mpr fun x => Finset.mem_biUnion.mpr ⟨placeOf x, Finset.mem_univ _, mem_placeOf x⟩

/-! ## A memref and its slices -/

section Slices
variable {sp : Space} {s s' : Shape} {e : EltTy} (c : Dev nD) (M : Memref sig .tc sp s e) (qs : PosShare TreeShare)

theorem squeeze_owns (r : Rect s) (hr : ∀ a, r.stride a = 1) (hq : r.shape.Squeezes s') (hc : r.shape.ShapeCasts s') (Y : r.shape.Idx → Elt F e) :
    (owns (c : Thread nD τ) (M.slice r hr) qs Y : sProp 𝕄)
      ⊢ owns (c : Thread nD τ) ((M.slice r hr).squeeze s' hq) qs (shapeCast s' Y hc) := by
  unfold owns
  iintro ⟨%f, %hf, H⟩
  have hset : ((M.slice r hr).squeeze s' hq).view.set = (M.slice r hr).view.set := View.set_reshape _ _
  rw [hset]
  iexists f; isplitr
  · ipureintro; subst hf; exact (Memref.read_squeeze_slice M r hr hq hc f)
  iexact H

theorem owns_squeeze (r : Rect s) (hr : ∀ a, r.stride a = 1) (hq : r.shape.Squeezes s') (hc : r.shape.ShapeCasts s')
    (hc' : s'.ShapeCasts r.shape) (Y : s'.Idx → Elt F e) :
    (owns (c : Thread nD τ) ((M.slice r hr).squeeze s' hq) qs Y : sProp 𝕄)
      ⊢ owns (c : Thread nD τ) (M.slice r hr) qs (shapeCast r.shape Y hc') := by
  unfold owns
  iintro ⟨%f, %hf, H⟩
  have hset : ((M.slice r hr).squeeze s' hq).view.set = (M.slice r hr).view.set := View.set_reshape _ _
  rw [hset]
  iexists f; isplitr
  · ipureintro; subst hf
    rw [Memref.read_squeeze_slice M r hr hq hc f, shapeCast_shapeCast]; rfl
  iexact H

variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)
include hd hcov

/-- Contents of the slices are contents of the memref's parts. -/
theorem glue (Y : (t : T) → (r t).shape.Idx → Elt F e) [Nonempty (Elt F e)] : ∃ X : s.Idx → Elt F e, ∀ t j, X ((r t).emb j) = Y t j := by
  classical
  refine ⟨fun x => if hx : ∃ tj : (t : T) × (r t).shape.Idx, (r tj.1).emb tj.2 = x then Y hx.choose.1 hx.choose.2 else Classical.arbitrary _, fun t j => ?_⟩
  have hx : ∃ tj : (t : T) × (r t).shape.Idx, (r tj.1).emb tj.2 = (r t).emb j := ⟨⟨t, j⟩, rfl⟩
  dsimp only; rw [dif_pos hx]
  have hs := hx.choose_spec
  generalize hx.choose = tj at hs ⊢
  obtain ⟨t', j'⟩ := tj
  have ht : t' = t := by
    by_contra hne
    have h1 : (r t').emb j' ∈ (r t').set := (r t').idx_mem j'
    have h2 : (r t).emb j ∈ (r t).set := (r t).idx_mem j
    rw [← show (r t').emb j' = (r t).emb j from hs] at h2
    exact Finset.disjoint_left.mp (hd t' t hne) h1 h2
  subst ht
  have hj : j' = j := (r t').emb.injective hs
  subst hj; rfl

theorem join_slices (Y : (t : T) → (r t).shape.Idx → Elt F e) [∀ e, Nonempty (Elt F e)] :
    (bigSep Finset.univ (fun t => owns (c : Thread nD τ) (M.slice (r t) (hr t)) qs (Y t)) : sProp 𝕄)
      ⊢ iprop(∃ X, ⌜∀ t j, X ((r t).emb j) = Y t j⌝ ∗ owns (c : Thread nD τ) M qs X) := by
  obtain ⟨X, hX⟩ := glue (F := F) r hd hcov Y
  iintro H
  iexists X
  isplitr; · ipureintro; exact hX
  iapply (owns_of_rects (c : Thread nD τ) M qs r hr hd hcov X)
  iapply (Entails.of_eq (bigSep_congr fun t _ => congrArg (owns (c : Thread nD τ) (M.slice (r t) (hr t)) qs) (funext fun j => (hX t j).symm))) $$ H

theorem split_free (X : s.Idx → Elt F e) :
    (owns (c : Thread nD τ) M fullShare X : sProp 𝕄) ⊢ bigSep Finset.univ (fun t => free (F := F) c (M.slice (r t) (hr t))) :=
  (owns_rects (c : Thread nD τ) M fullShare r hr hd hcov X).trans (bigSep_mono fun t _ => free_intro c _ _)

theorem join_free [∀ e, Nonempty (Elt F e)] :
    (bigSep Finset.univ (fun t => free (F := F) c (M.slice (r t) (hr t))) : sProp 𝕄) ⊢ free (F := F) c M := by
  refine (bigSep_exists_pi Finset.univ (fun t (Y : (r t).shape.Idx → Elt F e) => owns (c : Thread nD τ) (M.slice (r t) (hr t)) fullShare Y)).trans ?_
  iintro ⟨%Y, H⟩
  ihave H := (join_slices c M fullShare r hr hd hcov Y) $$ H
  icases H with ⟨%X, -, H⟩
  iapply (free_intro c M X) $$ H

variable (hq : ∀ t, (r t).shape.Squeezes s') (hc : ∀ t, (r t).shape.ShapeCasts s') (hc' : ∀ t, s'.ShapeCasts (r t).shape)
include hc hc'

/-- A memref is its slots, whatever they hold. -/
theorem split_slots :
    (free (F := F) c M : sProp 𝕄) ⊢ bigSep Finset.univ (fun t => free (F := F) c ((M.slice (r t) (hr t)).squeeze s' (hq t))) := by
  have h1 : (free (F := F) c M : sProp 𝕄) ⊢ bigSep Finset.univ (fun t => free (F := F) c (M.slice (r t) (hr t))) := by
    unfold free; iintro ⟨%X, H⟩; iapply (split_free c M r hr hd hcov X) $$ H
  refine h1.trans (bigSep_mono fun t _ => ?_)
  show (free (F := F) c (M.slice (r t) (hr t)) : sProp 𝕄) ⊢ free (F := F) c ((M.slice (r t) (hr t)).squeeze s' (hq t))
  unfold free; iintro ⟨%Y, H⟩
  iexists (shapeCast s' Y (hc t))
  iapply (squeeze_owns c M fullShare (r t) (hr t) (hq t) (hc t) Y) $$ H

theorem join_slots [∀ e, Nonempty (Elt F e)] :
    (bigSep Finset.univ (fun t => free (F := F) c ((M.slice (r t) (hr t)).squeeze s' (hq t))) : sProp 𝕄) ⊢ free (F := F) c M := by
  refine (bigSep_mono fun t _ => ?_).trans (join_free c M r hr hd hcov)
  show (free (F := F) c ((M.slice (r t) (hr t)).squeeze s' (hq t)) : sProp 𝕄) ⊢ free (F := F) c (M.slice (r t) (hr t))
  unfold free; iintro ⟨%Y, H⟩
  iexists (shapeCast (r t).shape Y (hc' t))
  iapply (owns_squeeze c M fullShare (r t) (hr t) (hq t) (hc t) (hc' t) Y) $$ H

end Slices

/-! ## The buffers of the kernel -/

section Buffers
variable (c : Dev nD)

theorem slotsA (m : Memref sig .tc .vmem S2x2x256x512 .bf16) :
    (free (F := F) c m : sProp 𝕄) ⊢ bigSep Finset.univ (fun p : Fin 2 × Fin 2 => free (F := F) c (slA m p.1 p.2)) :=
  split_slots c m (fun p : Fin 2 × Fin 2 => rA p.1 p.2) (fun _ _ => rfl) (box_disj inbA) (box_cover inbA)
    (fun _ => squeezes_S1x1x256x512_S256x512) (fun _ => shapeCasts_S1x1x256x512_S256x512) (fun _ => shapeCasts_S256x512_S1x1x256x512)
theorem slotsB (m : Memref sig .tc .vmem S2x2x128x512 .bf16) :
    (free (F := F) c m : sProp 𝕄) ⊢ bigSep Finset.univ (fun p : Fin 2 × Fin 2 => free (F := F) c (slB m p.1 p.2)) :=
  split_slots c m (fun p : Fin 2 × Fin 2 => rB p.1 p.2) (fun _ _ => rfl) (box_disj inbB) (box_cover inbB)
    (fun _ => squeezes_S1x1x128x512_S128x512) (fun _ => shapeCasts_S1x1x128x512_S128x512) (fun _ => shapeCasts_S128x512_S1x1x128x512)
theorem slotsC (m : Memref sig .tc .vmem S2x4x128x512 .bf16) :
    (free (F := F) c m : sProp 𝕄) ⊢ bigSep Finset.univ (fun p : Fin 2 × Fin 4 => free (F := F) c (slC m p.1 p.2)) :=
  split_slots c m (fun p : Fin 2 × Fin 4 => rC p.1 p.2) (fun _ _ => rfl) (box_disj inbC) (box_cover inbC)
    (fun _ => squeezes_S1x1x128x512_S128x512) (fun _ => shapeCasts_S1x1x128x512_S128x512) (fun _ => shapeCasts_S128x512_S1x1x128x512)
theorem slotsO {sp : Space} (m : Memref sig .tc sp S1024x1024 .f32) :
    (free (F := F) c m : sProp 𝕄) ⊢ bigSep Finset.univ (fun p : Fin 2 × Fin 4 × Fin 2 => free (F := F) c (slO m p.1 p.2.1 p.2.2)) := by
  have h1 : (free (F := F) c m : sProp 𝕄) = iprop(∃ Y, owns (c : Thread nD τ) m fullShare Y) := rfl
  rw [h1]; iintro ⟨%Y, H⟩
  iapply (split_free c m (fun p : Fin 2 × Fin 4 × Fin 2 => rO p.1 p.2.1 p.2.2) (fun _ _ => rfl) placeDisj placeCover Y) $$ H

theorem wholeA (m : Memref sig .tc .vmem S2x2x256x512 .bf16) :
    (bigSep Finset.univ (fun p : Fin 2 × Fin 2 => free (F := F) c (slA m p.1 p.2)) : sProp 𝕄) ⊢ free (F := F) c m :=
  join_slots c m (fun p : Fin 2 × Fin 2 => rA p.1 p.2) (fun _ _ => rfl) (box_disj inbA) (box_cover inbA)
    (fun _ => squeezes_S1x1x256x512_S256x512) (fun _ => shapeCasts_S1x1x256x512_S256x512) (fun _ => shapeCasts_S256x512_S1x1x256x512)
theorem wholeB (m : Memref sig .tc .vmem S2x2x128x512 .bf16) :
    (bigSep Finset.univ (fun p : Fin 2 × Fin 2 => free (F := F) c (slB m p.1 p.2)) : sProp 𝕄) ⊢ free (F := F) c m :=
  join_slots c m (fun p : Fin 2 × Fin 2 => rB p.1 p.2) (fun _ _ => rfl) (box_disj inbB) (box_cover inbB)
    (fun _ => squeezes_S1x1x128x512_S128x512) (fun _ => shapeCasts_S1x1x128x512_S128x512) (fun _ => shapeCasts_S128x512_S1x1x128x512)
theorem wholeC (m : Memref sig .tc .vmem S2x4x128x512 .bf16) :
    (bigSep Finset.univ (fun p : Fin 2 × Fin 4 => free (F := F) c (slC m p.1 p.2)) : sProp 𝕄) ⊢ free (F := F) c m :=
  join_slots c m (fun p : Fin 2 × Fin 4 => rC p.1 p.2) (fun _ _ => rfl) (box_disj inbC) (box_cover inbC)
    (fun _ => squeezes_S1x1x128x512_S128x512) (fun _ => shapeCasts_S1x1x128x512_S128x512) (fun _ => shapeCasts_S128x512_S1x1x128x512)
theorem wholeO {sp : Space} (m : Memref sig .tc sp S1024x1024 .f32) :
    (bigSep Finset.univ (fun p : Fin 2 × Fin 4 × Fin 2 => free (F := F) c (slO m p.1 p.2.1 p.2.2)) : sProp 𝕄) ⊢ free (F := F) c m :=
  join_free c m (fun p : Fin 2 × Fin 4 × Fin 2 => rO p.1 p.2.1 p.2.2) (fun _ _ => rfl) placeDisj placeCover

/-- A whole buffer at some contents. -/
theorem free_whole (b : Ref sig .tc) :
    (free (F := F) c (Memref.whole b) : sProp 𝕄) = iprop(∃ f : Buf (Elt F) ((c : Thread nD τ).loc b), ((c : Thread nD τ).loc b) ↦{fullShare} f) := by
  unfold free
  refine congrArg BIBase.exists (funext fun Y => ?_)
  exact owns_whole (c : Thread nD τ) b fullShare Y

variable (X : Dev nD → Vec F S1024x256 .f32) (W : Dev nD → Vec F S256x1024 .f32)

/-- The output's places at the result are the output at contents that read so. -/
theorem out_whole :
    (bigSep Finset.univ (odn X W c) : sProp 𝕄) ⊢ iprop(∃ f : Buf (Elt F) ((c : Thread nD τ).loc main_v1),
      ⌜∀ (a : Fin 2) (k : Fin 4) (i : Fin 2) (j : S128x512.Idx), (f : Vec F S1024x1024 .f32) ((rO a k i).emb j) = res X W c a k i j⌝
        ∗ (((c : Thread nD τ).loc main_v1) ↦{fullShare} f)) := by
  iintro H
  ihave H := (join_slices c aO fullShare (fun p : Fin 2 × Fin 4 × Fin 2 => rO p.1 p.2.1 p.2.2) (fun _ _ => rfl) placeDisj placeCover
    (fun p => res X W c p.1 p.2.1 p.2.2)) $$ [H]
  · unfold odn; iexact H
  icases H with ⟨%f, %hf, H⟩
  iexists f
  isplitr; · ipureintro; exact fun a k i j => hf (a, k, i) j
  iapply (Entails.of_eq (owns_whole (c : Thread nD τ) main_v1 fullShare f)) $$ H

/-! ## The transfers by family -/

omit [FloatOps F] in
theorem fams (Φ : Xf → sProp 𝕄) : (bigSep Finset.univ Φ : sProp 𝕄)
    = iprop((bigSep Finset.univ fun p : Fin 2 × Fin 2 => Φ (.s1 p.1 p.2)) ∗ (bigSep Finset.univ fun p : Fin 2 × Fin 2 => Φ (.s2 p.1 p.2))
        ∗ (bigSep Finset.univ fun p : Fin 2 × Fin 2 => Φ (.s3 p.1 p.2)) ∗ (bigSep Finset.univ fun p : Fin 2 × Fin 4 => Φ (.s4 p.1 p.2))) := by
  rw [bigSep_univ_equiv Xf.equiv.symm Φ, bigSep_univ_sum, bigSep_univ_sum, bigSep_univ_sum]; rfl

omit [FloatOps F] in
/-- The eighths of a half: a device's own quarter's and its partner's. -/
theorem eighths (Φ : Fin 2 × Fin 4 → sProp 𝕄) : (bigSep Finset.univ Φ : sProp 𝕄)
    = iprop((bigSep Finset.univ fun p : Fin 2 × Fin 2 => Φ (p.1, k4 (q p.1 c) p.2))
        ∗ (bigSep Finset.univ fun p : Fin 2 × Fin 2 => Φ (p.1, k4 (no (q p.1 c)) p.2))) := by
  have hl := bigSep_univ_eq_bigSepL (M := 𝕄) [((0, 0) : Fin 2 × Fin 2), (0, 1), (1, 0), (1, 1)] (by decide) (by decide)
  rw [hl, hl, bigSep_univ_eq_bigSepL
      (([(0, 0), (0, 1), (1, 0), (1, 1)] : List (Fin 2 × Fin 2)).map (fun p => (p.1, k4 (q p.1 c) p.2))
        ++ ([(0, 0), (0, 1), (1, 0), (1, 1)] : List (Fin 2 × Fin 2)).map (fun p => (p.1, k4 (no (q p.1 c)) p.2))) (by revert c; decide) (by revert c; decide),
    bigSepL_append, bigSepL_map, bigSepL_map]

/-- The landing buffers are the landing slots. -/
theorem slots_of :
    iprop(free (F := F) c rb1 ∗ free (F := F) c rb2 ∗ free (F := F) c rb3 ∗ free (F := F) c rb4) ⊢ bigSep Finset.univ (slot (F := F) c) := by
  rw [fams]
  iintro ⟨H1, H2, H3, H4⟩
  isplitl [H1]; · iapply (slotsA c rb1) $$ H1
  isplitl [H2]; · iapply (slotsB c rb2) $$ H2
  isplitl [H3]; · iapply (slotsB c rb3) $$ H3
  iapply (slotsC c rb4) $$ H4

/-- A landing slot in the end, at what it keeps of the share. -/
def got (X : Dev nD → Vec F S1024x256 .f32) (W : Dev nD → Vec F S256x1024 .f32) (c : Dev nD) (t : Xf) : sProp 𝕄 := owns (c : Thread nD τ) (dst t) (shl t) (val X W (tgt c t) t)

/-- What is left of the transfers in the end: the exchange buffers. -/
theorem bufs_of :
    iprop(bigSep Finset.univ (sndPay X W c) ∗ bigSep Finset.univ (got X W c))
      ⊢ iprop(free (F := F) c sb1 ∗ free (F := F) c rb1 ∗ free (F := F) c sb2 ∗ free (F := F) c rb2 ∗ free (F := F) c sb3 ∗ free (F := F) c rb3
        ∗ free (F := F) c rb4) := by
  have hs1 : (bigSep Finset.univ (fun p : Fin 2 × Fin 2 => sndPay X W c (.s1 p.1 p.2)) : sProp 𝕄) ⊢ free (F := F) c sb1 :=
    (bigSep_mono fun p _ => free_intro c (slA sb1 p.1 p.2) _).trans (wholeA c sb1)
  have hr1 : (bigSep Finset.univ (fun p : Fin 2 × Fin 2 => got X W c (.s1 p.1 p.2)) : sProp 𝕄) ⊢ free (F := F) c rb1 :=
    (bigSep_mono fun p _ => free_intro c (slA rb1 p.1 p.2) _).trans (wholeA c rb1)
  have hs2 : (bigSep Finset.univ (fun p : Fin 2 × Fin 2 => sndPay X W c (.s2 p.1 p.2)) : sProp 𝕄) ⊢ free (F := F) c sb2 :=
    (bigSep_mono fun p _ => free_intro c (slB sb2 p.1 p.2) _).trans (wholeB c sb2)
  have hr2 : (bigSep Finset.univ (fun p : Fin 2 × Fin 2 => got X W c (.s2 p.1 p.2)) : sProp 𝕄) ⊢ free (F := F) c rb2 :=
    (bigSep_mono fun p _ => free_intro c (slB rb2 p.1 p.2) _).trans (wholeB c rb2)
  have hs3 : (bigSep Finset.univ (fun p : Fin 2 × Fin 2 => iprop(sndPay X W c (.s3 p.1 p.2) ∗ sndPay X W c (.s4 p.1 (k4 (q p.1 c) p.2)))) : sProp 𝕄)
      ⊢ free (F := F) c sb3 := by
    refine (bigSep_mono fun p _ => ?_).trans (wholeB c sb3)
    rw [pay_own]
    refine BIBase.Entails.trans ?_ (free_intro c (slB sb3 p.1 p.2) (vG X W c p.1 p.2))
    exact (owns_share (c : Thread nD τ) (slB sb3 p.1 p.2) (PosShare.mem_left_op_right fullShare) _).2
  have hr3 : (bigSep Finset.univ (fun p : Fin 2 × Fin 2 => iprop(got X W c (.s3 p.1 p.2) ∗ sndPay X W c (.s4 p.1 (k4 (no (q p.1 c)) p.2)))) : sProp 𝕄)
      ⊢ free (F := F) c rb3 := by
    refine (bigSep_mono fun p _ => ?_).trans (wholeB c rb3)
    rw [pay_fwd]
    refine BIBase.Entails.trans ?_ (free_intro c (slB rb3 p.1 p.2) (vG X W (pb p.1 c) p.1 p.2))
    exact (owns_share (c : Thread nD τ) (slB rb3 p.1 p.2) (PosShare.mem_left_op_right fullShare) _).2
  have hr4 : (bigSep Finset.univ (fun p : Fin 2 × Fin 4 => got X W c (.s4 p.1 p.2)) : sProp 𝕄) ⊢ free (F := F) c rb4 :=
    (bigSep_mono fun p _ => free_intro c (slC rb4 p.1 p.2) _).trans (wholeC c rb4)
  rw [fams (sndPay X W c), fams (got X W c), eighths c (fun p => sndPay X W c (.s4 p.1 p.2))]
  iintro ⟨⟨Hs1, Hs2, Hs3, Hs4, Hs5⟩, Hr1, Hr2, Hr3, Hr4⟩
  isplitl [Hs1]; · iapply hs1 $$ Hs1
  isplitl [Hr1]; · iapply hr1 $$ Hr1
  isplitl [Hs2]; · iapply hs2 $$ Hs2
  isplitl [Hr2]; · iapply hr2 $$ Hr2
  isplitl [Hs3 Hs4]
  · iapply hs3
    iapply (Entails.of_eq (bigSep_sep' (Finset.univ : Finset (Fin 2 × Fin 2)) (fun p => sndPay X W c (.s3 p.1 p.2))
      (fun p => sndPay X W c (.s4 p.1 (k4 (q p.1 c) p.2)))).symm)
    isplitl [Hs3]; · iexact Hs3
    iexact Hs4
  isplitl [Hr3 Hs5]
  · iapply hr3
    iapply (Entails.of_eq (bigSep_sep' (Finset.univ : Finset (Fin 2 × Fin 2)) (fun p => got X W c (.s3 p.1 p.2))
      (fun p => sndPay X W c (.s4 p.1 (k4 (no (q p.1 c)) p.2)))).symm)
    isplitl [Hr3]; · iexact Hr3
    iexact Hs5
  iapply hr4 $$ Hr4

end Buffers

end Cert.AllReduce

end
-- ==== Proof.Ghost.lean ====
/-
What the launch sets up: the cells' invariants, the rights dealt to their payers, the credits.
-/
module

public import proofs.«01_k».proof.Proof.Slots
public import proofs.«01_k».proof.Proof.Gen.KernelIdeal.Launch
public import Idealize.ShloMosaic.Lib.Pipeline.Launch
public import Idealize.ShloMosaic.Lib.Pipeline.Kit

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (X : Dev nD → Vec F S1024x256 .f32) (W : Dev nD → Vec F S256x1024 .f32)

/-! ## The kernel's own semaphores, and the cells and rights at launch -/

/-- A device's own semaphores: sends, receives, copies out, copies in. -/
abbrev OI : Type := Xf ⊕ Xf ⊕ Fin 16 ⊕ Fin 2
def own : OI → SemLoc sig
  | .inl t => .dma (sndI t)
  | .inr (.inl t) => .dma (rcvI t)
  | .inr (.inr (.inl n)) => .dma (outI n)
  | .inr (.inr (.inr n)) => .dma (inI n)

/-- The place of an own semaphore among the DMA semaphores. -/
def pos : OI → ℕ
  | .inl t => tix t
  | .inr (.inl t) => 20 + tix t
  | .inr (.inr (.inl n)) => 40 + n.val
  | .inr (.inr (.inr n)) => 56 + n.val

theorem own_pos (k : OI) : ∃ n : DmaSem sig, own k = .dma n ∧ n.val = pos k := by
  rcases k with t | t | n | n
  · exact ⟨_, rfl, rfl⟩
  · exact ⟨_, rfl, rfl⟩
  · exact ⟨_, rfl, rfl⟩
  · exact ⟨_, rfl, rfl⟩

theorem pos_inj {k k' : OI} (h : pos k = pos k') : k = k' := by
  have hl := tix_lt
  rcases k with t | t | n | n <;> rcases k' with t' | t' | n' | n' <;> simp only [pos] at h
  · exact congrArg _ (tix_inj h)
  · have := hl t; omega
  · have := hl t; omega
  · have := hl t; omega
  · have := hl t'; omega
  · exact congrArg _ (congrArg _ (tix_inj (by omega)))
  · have := hl t; omega
  · have := hl t; omega
  · have := hl t'; omega
  · have := hl t'; omega
  · exact congrArg _ (congrArg _ (congrArg _ (Fin.ext (by omega))))
  · have := n.isLt; omega
  · have := hl t'; omega
  · have := hl t'; omega
  · have := n'.isLt; omega
  · exact congrArg _ (congrArg _ (congrArg _ (Fin.ext (by omega))))

theorem ownFacts : Pipeline.OwnSemFacts cfg0.spec own where
  isScoped k := by
    have h : ∀ n : DmaSem sig, (SemLoc.dma n : SemLoc sig).isScoped .tc = true := by decide
    obtain ⟨n, hn, -⟩ := own_pos k
    rw [hn]; exact h n
  inj k k' h := by
    obtain ⟨n, hn, hp⟩ := own_pos k
    obtain ⟨n', hn', hp'⟩ := own_pos k'
    rw [hn, hn'] at h
    have := congrArg Fin.val (SemLoc.dma.inj h)
    exact pos_inj (by omega)
  disj k w := w.elim0

theorem kcell_inj : Function.Injective (fun x : Dev nD × KI => kcell x.1 x.2) := by
  rintro ⟨c, k⟩ ⟨c', k'⟩ h
  have h1 : c = c' := congrArg (fun g : GSem nD τ sig => g.1.1) h
  have h2 : ksem k = ksem k' := congrArg Prod.snd h
  rw [h1, ksem_inj h2]
def cells : Finset (GSem nD τ sig) := Finset.univ.map ⟨fun x : Dev nD × KI => kcell x.1 x.2, kcell_inj⟩

/-- The rights of a device's own cells: two for its barrier, one for each send and receive. -/
abbrev TI : Type := Bool ⊕ Xf ⊕ Xf
def tokOf (x : Dev nD × TI) : GSem nD τ sig × ℕ × Bool :=
  match x.2 with
  | .inl b => (barC x.1, 0, b)
  | .inr (.inl t) => (sndC x.1 t, 0, false)
  | .inr (.inr t) => (rcvC x.1 t, 0, false)

theorem tokOf_inj : Function.Injective tokOf := by
  rintro ⟨c, k⟩ ⟨c', k'⟩ h
  have h0 : c = c' ∧ ksem (k.map (fun _ => ()) id) = ksem (k'.map (fun _ => ()) id) := by
    rcases k with b | t | t <;> rcases k' with b' | t' | t' <;>
      exact ⟨congrArg (fun x : GSem nD τ sig × ℕ × Bool => x.1.1.1) h, congrArg (fun x : GSem nD τ sig × ℕ × Bool => x.1.2) h⟩
  have h1 := ksem_inj h0.2
  obtain ⟨rfl, -⟩ := h0
  congr 1
  rcases k with b | t <;> rcases k' with b' | t'
  · have : b = b' := congrArg (fun x : GSem nD τ sig × ℕ × Bool => x.2.2) h
    rw [this]
  · cases h1
  · cases h1
  · exact congrArg Sum.inr (Sum.inr.inj h1)
def rights : Finset (GSem nD τ sig × ℕ × Bool) := Finset.univ.map ⟨tokOf, tokOf_inj⟩

def u₀ : UU :=
  (initOf (Pipeline.cells cfgs cellOf_inj) (Pipeline.launchToks cfgs cellOf_inj), (initOf cells rights, 1))

/-- The rights of device `c`'s own cells, and those it pays with. -/
def toks (c : Dev nD) : sProp 𝕄 :=
  iprop((dutyTok ER (barC c) 0 false ∗ dutyTok ER (barC c) 0 true) ∗ (bigSep Finset.univ fun t : Xf => dutyTok ER (sndC c t) 0 false)
    ∗ bigSep Finset.univ fun t : Xf => dutyTok ER (rcvC c t) 0 false)
def payToks (c : Dev nD) : sProp 𝕄 :=
  iprop((dutyTok ER (barC (p1 c)) 0 false ∗ dutyTok ER (barC (p2 c)) 0 true) ∗ (bigSep Finset.univ fun t : Xf => dutyTok ER (sndC c t) 0 false)
    ∗ bigSep Finset.univ fun t : Xf => dutyTok ER (rcvC (tgt c t) t) 0 false)
/-- The semaphores of the local copies. -/
def locals (c : Dev nD) : sProp 𝕄 := iprop((bigSep Finset.univ fun n : Fin 16 => osem (F := F) c n) ∗ isem c 0 ∗ isem c 1)
def ats (c : Dev nD) : sProp 𝕄 := bigSep Finset.univ fun k : KI => atPos ER (kcell c k) 0 ∅ 0

/-- What the launch gives device `c`; what it starts with. -/
def G (c : Dev nD) : sProp 𝕄 :=
  iprop((bigSep Finset.univ fun k : KI => roundState ER (sch X W) (kcell c k) 0)
    ∗ ((bigSep Finset.univ fun k : KI => reached ER (kcell c k) 0) ∗ ats c) ∗ toks c)
def rec0 (K : Dev nD × KI → ℕ) : sProp 𝕄 :=
  iprop(bigSep Finset.univ (fun x : Dev nD × KI => cellInv ER (sch X W) (K x) (kcell x.1 x.2))
    ∗ bigSep Finset.univ (fun x : Dev nD × KI => reached ER (kcell x.1 x.2) 0))
instance rec0_persistent (K : Dev nD × KI → ℕ) : BI.Persistent (rec0 X W K) := by unfold rec0; infer_instance
def G' (c : Dev nD) : sProp 𝕄 := iprop(∃ K, rec0 X W K ∗ ats c ∗ payToks c ∗ locals c)

theorem fund_cells : BI.own (ER (initOf cells rights)) ⊢ (|==> bigSep Finset.univ (G X W) : sProp 𝕄) := by
  have hX (Φ : GSem nD τ sig → sProp 𝕄) : bigSep cells Φ = bigSep Finset.univ fun c : Dev nD => bigSep Finset.univ fun k : KI => Φ (kcell c k) := by
    unfold cells; rw [bigSep_map, bigSep_univ_prod]; rfl
  have hT : bigSep rights (fun x => (dutyTok ER x.1 x.2.1 x.2.2 : sProp 𝕄)) = bigSep Finset.univ fun c : Dev nD => toks c := by
    unfold rights; rw [bigSep_map, bigSep_univ_prod]
    refine bigSep_congr fun c _ => ?_
    rw [bigSep_univ_sum, bigSep_univ_sum, bigSep_univ_eq_bigSepL [false, true] (by decide) (by decide)]; rfl
  iintro HX
  imod (Rounds.fund ER (sch X W) cells rights) $$ HX with ⟨Hst, Hr, Hat, Htok⟩
  imodintro
  ihave Hst' := (Entails.of_eq (hX fun g => roundState ER (sch X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ats; simp only [bigSep_sep']
  isplitl [Hst']; · iexact Hst'
  isplitl [Hat' Hr']
  · isplitl [Hr'] <;> iassumption
  iexact Htok'

omit [FloatOps F] in
theorem bigSep_unit (Φ : Unit → sProp 𝕄) : bigSep Finset.univ Φ = Φ () := bigSep_univ_eq_bigSepL [()] (by decide) (by decide) Φ
omit [FloatOps F] in
theorem bigSep_KI (Φ : KI → sProp 𝕄) : bigSep Finset.univ Φ
    = iprop(Φ (.inl ()) ∗ (bigSep Finset.univ fun t => Φ (.inr (.inl t))) ∗ bigSep Finset.univ fun t => Φ (.inr (.inr t))) := by
  rw [bigSep_univ_sum, bigSep_univ_sum, bigSep_unit]; rfl

theorem ownSems0_eq (c : Dev nD) : (Pipeline.ownSems0 (Ix := Unit) (Name := ℕ) (U := UU) (Lvl := ℕ) (Val := Elt F) (τ := τ) own c : sProp 𝕄)
    = iprop((bigSep Finset.univ fun t : Xf => semVal (sndC c t) 0) ∗ (bigSep Finset.univ fun t : Xf => semVal (rcvC c t) 0) ∗ locals c) := by
  unfold Pipeline.ownSems0
  rw [bigSep_univ_sum, bigSep_univ_sum, bigSep_univ_sum, bigSep_univ_eq_bigSepL (I := Fin 2) [0, 1] (by decide) (by decide)]; rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) own c ∗ unscopedSems0 c ∗ G X W c)
      ⊢ |={Set.univ}=> iprop((bigSep Finset.univ fun k => iprop(∃ κ : ℕ, cellInv ER (sch X W) κ (kcell c k)))
          ∗ (bigSep Finset.univ fun k => reached ER (kcell c k) 0) ∗ ats c ∗ toks c ∗ locals c) := by
  unfold G
  rw [ownSems0_eq, unscopedSems0_eq]
  iintro ⟨⟨Hs, Hr, Hl⟩, Hb, Hst, ⟨Hre, Hat⟩, Htok⟩
  imod (show iprop((bigSep Finset.univ fun k : KI => semVal (kcell c k) 0) ∗ bigSep Finset.univ fun k : KI => roundState ER (sch X W) (kcell c k) 0)
      ⊢ (|={Set.univ}=> bigSep Finset.univ fun k => iprop(∃ κ : ℕ, cellInv ER (sch X W) κ (kcell c k)) : sProp 𝕄) from by
        rw [← bigSep_sep']
        exact (bigSep_mono fun k _ => (Rounds.body_intro ER (sch X W) (kcell c k)).trans inv_alloc).trans (bigSep_fupd _ _)) $$ [Hs Hr Hb Hst] with Hinv
  · isplitr [Hst]
    · rw [bigSep_KI]
      isplitl [Hb]; · iexact Hb
      isplitl [Hs]; · iexact Hs
      iexact Hr
    iexact Hst
  imodintro
  isplitl [Hinv]; · iexact Hinv
  isplitl [Hre]; · iexact Hre
  isplitl [Hat]; · iexact Hat
  isplitl [Htok]; · iexact Htok
  iexact Hl

def flip1 : Dev nD ≃ Dev nD := ⟨p1, p1, p1_p1, p1_p1⟩
def flip2 : Dev nD ≃ Dev nD := ⟨p2, p2, p2_p2, p2_p2⟩
def flipT : Dev nD × Xf ≃ Dev nD × Xf :=
  ⟨fun x => (tgt x.1 x.2, x.2), fun x => (tgt x.1 x.2, x.2), fun x => Prod.ext (tgt_tgt x.1 x.2) rfl, fun x => Prod.ext (tgt_tgt x.1 x.2) rfl⟩

omit [FloatOps F] in
/-- The rights dealt to those who pay with them. -/
theorem toks_around : (bigSep Finset.univ fun c : Dev nD => (toks c : sProp 𝕄)) ⊢ bigSep Finset.univ fun c : Dev nD => payToks c := by
  have hT : (bigSep Finset.univ fun c : Dev nD => bigSep Finset.univ fun t : Xf => (dutyTok ER (rcvC c t) 0 false : sProp 𝕄))
      = bigSep Finset.univ fun c : Dev nD => bigSep Finset.univ fun t : Xf => dutyTok ER (rcvC (tgt c t) t) 0 false := by
    rw [← bigSep_univ_prod (fun x : Dev nD × Xf => (dutyTok ER (rcvC x.1 x.2) 0 false : sProp 𝕄)),
      bigSep_univ_equiv flipT, bigSep_univ_prod]; rfl
  unfold toks payToks
  rw [bigSep_sep', bigSep_sep', bigSep_sep', bigSep_sep', bigSep_sep', bigSep_sep', hT,
    bigSep_univ_equiv flip1 (fun c : Dev nD => (dutyTok ER (barC c) 0 false : sProp 𝕄)),
    bigSep_univ_equiv flip2 (fun c : Dev nD => (dutyTok ER (barC c) 0 true : sProp 𝕄))]
  exact BIBase.Entails.rfl

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sch X W) κ (kcell c k)))
          ∗ (bigSep Finset.univ fun k => reached ER (kcell c k) 0) ∗ ats c ∗ toks c ∗ locals c) : sProp 𝕄)
      ⊢ bigSep Finset.univ (G' X W) := by
  rw [bigSep_sep', bigSep_sep', bigSep_sep', bigSep_sep', ← bigSep_univ_prod (fun x : Dev nD × KI => iprop(∃ κ : ℕ, cellInv ER (sch X W) κ (kcell x.1 x.2))),
    ← bigSep_univ_prod (fun x : Dev nD × KI => (reached ER (kcell x.1 x.2) 0 : sProp 𝕄))]
  iintro ⟨HI, #HR, Hat, Htok, Hl⟩
  ihave HK := (BI.bigSep_exists_pi Finset.univ (fun (x : Dev nD × KI) (κ : ℕ) => (cellInv ER (sch X W) κ (kcell x.1 x.2) : sProp 𝕄))) $$ HI
  icases HK with ⟨%K, #HI⟩
  ihave Htk := (toks_around (F := F)) $$ Htok
  have hi : ∀ c ∈ (Finset.univ : Finset (Dev nD)), iprop(rec0 X W K ∗ (ats (F := F) c ∗ payToks c ∗ locals c)) ⊢ G' X W c := fun c _ => by
    unfold G'; iintro ⟨HR, Hc⟩; iexists K
    isplitl [HR]; · iexact HR
    iexact Hc
  iapply (bigSep_with (R := rec0 X W K) hi)
  isplitr
  · unfold rec0; isplitl; · iexact HI
    iexact HR
  · rw [bigSep_sep', bigSep_sep']
    isplitl [Hat]; · iexact Hat
    isplitl [Htk]; · iexact Htk
    iexact Hl

theorem glob : (bigSep Finset.univ fun c => iprop(Pipeline.ownSems0 (Ix := Unit) (Name := ℕ) (U := UU) (Lvl := ℕ) (Val := Elt F) (τ := τ) own c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## The launch credit -/

theorem bar_eq {a b : Dev nD} (h : barC a = barC b) : a = b := congrArg (fun g : GSem nD τ sig => g.1.1) h
theorem rcv_eq {a b : Dev nD} {t t' : Xf} (h : rcvC a t = rcvC b t') : a = b ∧ t = t' :=
  ⟨congrArg (fun g : GSem nD τ sig => g.1.1) h, by
    have := congrArg Fin.val (SemLoc.dma.inj (congrArg Prod.snd h)); exact tix_inj (Nat.add_left_cancel this)⟩
theorem reg_ne_dma (s : Sem sig) (n : DmaSem sig) : (SemLoc.reg s : SemLoc sig) ≠ .dma n := fun h => by cases h
theorem bar_ne_rcv (a b : Dev nD) (t : Xf) : barC a ≠ rcvC b t := fun h => reg_ne_dma _ _ (congrArg Prod.snd h)

theorem oweL_bar (d c : Dev nD) (l : List Xf) : oweL d l (barC c) () = 0 := by
  induction l with
  | nil => rfl
  | cons t l ih =>
    show (oweL d l + tallyAt (rcvC (tgt d t) t) () (Nt t)) (barC c) () = 0
    rw [Pi.add_apply, Finsupp.add_apply, ih, tallyAt_ne_cell (bar_ne_rcv _ _ _)]; rfl

theorem oweL_rcv (d c : Dev nD) (t : Xf) (l : List Xf) (hl : l.Nodup) :
    oweL d l (rcvC c t) () = if t ∈ l ∧ d = tgt c t then Nt t else 0 := by
  induction l with
  | nil => rw [if_neg (fun h => absurd h.1 List.not_mem_nil)]; rfl
  | cons t' l ih =>
    obtain ⟨h1, h2⟩ := List.nodup_cons.mp hl
    show (oweL d l + tallyAt (rcvC (tgt d t') t') () (Nt t')) (rcvC c t) () = _
    rw [Pi.add_apply, Finsupp.add_apply, ih h2, tallyAt_apply]
    by_cases ht : t = t'
    · subst ht
      rw [if_neg (fun h => h1 h.1), Nat.zero_add]
      by_cases hd : d = tgt c t
      · subst hd; rw [tgt_tgt, if_pos ⟨rfl, rfl⟩, if_pos ⟨List.mem_cons_self, rfl⟩]
      · rw [if_neg (fun h => hd (by rw [(rcv_eq h.1).1, tgt_tgt])), if_neg (fun h => hd h.2)]
    · rw [if_neg (fun h : rcvC c t = _ ∧ _ => ht (rcv_eq h.1).2), Nat.add_zero]
      refine if_congr (and_congr_left fun _ => ?_) rfl rfl
      rw [List.mem_cons]; exact ⟨Or.inr, fun h => h.resolve_left ht⟩

theorem owed_bar (d c : Dev nD) : O₀ d (barC c) () = (if d = p2 c then 1 else 0) + (if d = p1 c then 1 else 0) := by
  unfold O₀ O₁
  rw [Pi.add_apply, Finsupp.add_apply, Pi.add_apply, Finsupp.add_apply, oweL_bar, tallyAt_apply, tallyAt_apply, Nat.zero_add]
  congr 1
  · by_cases h : d = p2 c
    · subst h; rw [p2_p2, if_pos ⟨rfl, rfl⟩, if_pos rfl]
    · rw [if_neg (fun h1 => h (by rw [bar_eq h1.1, p2_p2])), if_neg h]
  · by_cases h : d = p1 c
    · subst h; rw [p1_p1, if_pos ⟨rfl, rfl⟩, if_pos rfl]
    · rw [if_neg (fun h1 => h (by rw [bar_eq h1.1, p1_p1])), if_neg h]

theorem owed_rcv (d c : Dev nD) (t : Xf) : O₀ d (rcvC c t) () = if d = tgt c t then Nt t else 0 := by
  unfold O₀ O₁
  rw [Pi.add_apply, Finsupp.add_apply, Pi.add_apply, Finsupp.add_apply, oweL_rcv d c t _ (order_nodup d),
    tallyAt_ne_cell (bar_ne_rcv _ _ _).symm, tallyAt_ne_cell (bar_ne_rcv _ _ _).symm]
  exact if_congr ⟨fun h => h.2, fun h => ⟨order_all d t, h⟩⟩ rfl rfl

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (p2 c) fun _ => 1, Finset.sum_ite_eq' Finset.univ (p1 c) fun _ => 1, if_pos (Finset.mem_univ _), if_pos (Finset.mem_univ _)]

theorem launch_rcv (c : Dev nD) (t : Xf) :
    tallyOn (rcvC c t) (launchCredit (Pipeline.owing O₀) 0 (rcvC c t)) = (tallyAt (rcvC c t) () (Nt t) : CellTallies nD τ sig Unit) := by
  unfold tallyAt; refine congrArg _ (Finsupp.ext fun u => ?_); cases u
  rw [Pipeline.launchCredit_owing, Finsupp.single_eq_same, Finset.sum_congr rfl fun d _ => owed_rcv d c t,
    Finset.sum_ite_eq' Finset.univ (tgt c t) fun _ => Nt t, if_pos (Finset.mem_univ _)]

theorem rcvS_inj : Function.Injective (fun t : Xf => (SemLoc.dma (rcvI t) : SemLoc sig)) := fun t t' h => by
  have := congrArg Fin.val (SemLoc.dma.inj h); exact tix_inj (Nat.add_left_cancel this)

omit [FloatOps F] in
theorem creds (c : Dev nD) :
    (Pipeline.launchCred O₀ c : sProp 𝕄)
      ⊢ iprop(cred (tallyAt (barC c) () 2) ∗ bigSep Finset.univ fun t : Xf => cred (tallyAt (rcvC c t) () (Nt t))) := by
  unfold Pipeline.launchCred
  rw [bigSep_univ_at _ (SemLoc.reg barS), launch_bar]
  refine sep_mono_right ((bigSep_subset (t := Finset.univ.map ⟨_, rcvS_inj⟩) fun x hx => ?_).trans ?_)
  · obtain ⟨t, -, rfl⟩ := Finset.mem_map.mp hx
    exact Finset.mem_erase.mpr ⟨fun h => reg_ne_dma _ _ h.symm, Finset.mem_univ _⟩
  · rw [bigSep_map]
    exact Entails.of_eq (bigSep_congr fun t _ => congrArg cred (launch_rcv c t))

end Cert.AllReduce

end
-- ==== Proof.ProgEq.lean ====
/-
The printed kernel body is `gen` at the device it reads.
-/
module

public import proofs.«01_k».proof.Proof.Prog
public import Idealize.ShloMosaic.Lib.Pipeline.Regions

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-- What the printed body does once it has read its device. -/
def after (t : Fin cfg0.N) (c : Dev nD) : Pg F :=
  match bodyAt0 (F := F) t with
  | .op .deviceId k => k c
  | p => p

theorem body_op (t : Fin cfg0.N) : bodyAt0 (F := F) t = .op .deviceId (after (F := F) t) := by chain_rfl

theorem after0 (t : Fin cfg0.N) : after (F := F) t ⟨0, by decide⟩ = gen ⟨0, by decide⟩ := by chain_rfl
theorem after1 (t : Fin cfg0.N) : after (F := F) t ⟨1, by decide⟩ = gen ⟨1, by decide⟩ := by chain_rfl
theorem after2 (t : Fin cfg0.N) : after (F := F) t ⟨2, by decide⟩ = gen ⟨2, by decide⟩ := by chain_rfl
theorem after3 (t : Fin cfg0.N) : after (F := F) t ⟨3, by decide⟩ = gen ⟨3, by decide⟩ := by chain_rfl

/-- At every device the printed body is the one program. -/
theorem after_eq (t : Fin cfg0.N) (c : Dev nD) : after (F := F) t c = gen c := by
  obtain ⟨n, hn⟩ := c
  match n, hn with
  | 0, _ => exact after0 t
  | 1, _ => exact after1 t
  | 2, _ => exact after2 t
  | 3, _ => exact after3 t

theorem body_eq (t : Fin cfg0.N) : bodyAt0 (F := F) t = .op .deviceId (gen (F := F)) :=
  (body_op t).trans (congrArg _ (funext fun c => after_eq t c))

end Cert.AllReduce

end
-- ==== Proof.Launch.lean ====
/-
The run of the program from its launch.
-/
module

public import proofs.«01_k».proof.Proof.Ghost
public import proofs.«01_k».proof.Proof.Gen.KernelIdeal.Frame
public import proofs.«01_k».proof.Proof.ProgEq
public import Idealize.ShloMosaic.Lib.Tactic
public import Idealize.ShloMosaic.Lib.Quiescent
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

section Body
variable (X : Dev nD → Vec F S1024x256 .f32) (W : Dev nD → Vec F S256x1024 .f32) (c : Dev nD)

/-- The output of device `c` in the end: the result at every place. -/
def Reads (f : Buf (Elt F) ((c : Thread nD τ).loc main_v1)) : Prop :=
  ∀ (a : Fin 2) (k : Fin 4) (i : Fin 2) (j : S128x512.Idx), (f : Vec F S1024x1024 .f32) ((rO a k i).emb j) = res X W c a k i j

/-- What the kernel leaves outside its scratch. -/
def Yc : sProp 𝕄 :=
  iprop(unscopedSems0 c ∗ opnd X W c ∗ ∃ f : Buf (Elt F) ((c : Thread nD τ).loc main_v1), ⌜Reads X W c f⌝ ∗ (((c : Thread nD τ).loc main_v1) ↦{fullShare} f))
/-- What device `c` starts from. -/
def start : sProp 𝕄 :=
  iprop(G' X W c ∗ levAts L lv ∗ cred (tallyAt (barC c) () 2) ∗ (bigSep Finset.univ fun t : Xf => cred (tallyAt (rcvC c t) () (Nt t)))
    ∗ opnd X W c ∗ free (F := F) c aO)
abbrev scr : sProp 𝕄 := Pipeline.scopedRest (Ix := Unit) (Name := ℕ) (U := UU) (Lvl := ℕ) (Val := Elt F) cfg0.spec c
abbrev owns0 : sProp 𝕄 := Pipeline.ownSems0 (Ix := Unit) (Name := ℕ) (U := UU) (Lvl := ℕ) (Val := Elt F) (τ := τ) own c

theorem scr_eq : scr (F := F) c = iprop(free (F := F) c mX ∗ free (F := F) c mW ∗ free (F := F) c mO ∗ free (F := F) c sb1 ∗ free (F := F) c rb1
    ∗ free (F := F) c sb2 ∗ free (F := F) c rb2 ∗ free (F := F) c sb3 ∗ free (F := F) c rb3 ∗ free (F := F) c rb4) := by
  unfold scr
  rw [scopedRest0_eq]
  rw [← free_whole c cc0_scratch0, ← free_whole c cc0_scratch1, ← free_whole c cc0_scratch2, ← free_whole c cc0_scratch3, ← free_whole c cc0_scratch4,
    ← free_whole c cc0_scratch5, ← free_whole c cc0_scratch6, ← free_whole c cc0_scratch7, ← free_whole c cc0_scratch8, ← free_whole c cc0_scratch9]

theorem pre_intro :
    iprop(cred (tallyAt (barC c) () 2) ∗ (bigSep Finset.univ fun t : Xf => cred (tallyAt (rcvC c t) () (Nt t))) ∗ ats c
      ∗ ((bigSep Finset.univ fun t : Xf => dutyTok ER (sndC c t) 0 false) ∗ bigSep Finset.univ fun t : Xf => dutyTok ER (rcvC (tgt c t) t) 0 false)
      ∗ (bigSep Finset.univ fun n : Fin 16 => osem (F := F) c n)
      ∗ free (F := F) c sb1 ∗ free (F := F) c sb2 ∗ free (F := F) c sb3 ∗ free (F := F) c mO ∗ free (F := F) c aO) ⊢ pre (F := F) c := by
  unfold ats pre
  rw [bigSep_KI]
  iintro ⟨Hc, Hcr, ⟨HaB, HaS, HaR⟩, ⟨HtS, HtR⟩, Ho, H1, H2, H3, Hm, Ha⟩
  isplitl [Hc]; · iexact Hc
  isplitl [HaB]; · iexact HaB
  isplitl [HtS HtR HaS]
  · unfold lic; rw [bigSep_sep', bigSep_sep']
    isplitl [HtS]; · iexact HtS
    isplitl [HtR]; · iexact HtR
    iexact HaS
  isplitl [Hcr HaR]
  · unfold rx; rw [bigSep_sep']
    isplitl [Hcr]; · iexact Hcr
    iexact HaR
  isplitl [H1]; · iapply (slotsA c sb1) $$ H1
  isplitl [H2]; · iapply (slotsB c sb2) $$ H2
  isplitl [H3]; · iapply (slotsB c sb3) $$ H3
  isplitl [Ho]; · iexact Ho
  isplitl [Hm]; · unfold om; iapply (slotsO c mO) $$ Hm
  unfold oo; iapply (slotsO c aO) $$ Ha

theorem post_elim :
    iprop(post X W c ∗ xP X c ∗ wP W c ∗ opnd X W c ∗ isem c 0 ∗ isem c 1) ⊢ iprop(Yc X W c ∗ owns0 (F := F) c ∗ scr (F := F) c) := by
  unfold post Yc sdn rdn owns0
  rw [scr_eq, ownSems0_eq, unscopedSems0_eq, bigSep_sep', bigSep_sep']
  iintro ⟨⟨HzB, ⟨Hs, HzS⟩, ⟨Hr, HzR⟩, Hn, Hm, Ho⟩, Hx, Hw, Ha, Hz0, Hz1⟩
  ihave Hb := (bufs_of c X W) $$ [Hs Hr]
  · isplitl [Hs]; · iexact Hs
    unfold got; iexact Hr
  icases Hb with ⟨Hs1, Hr1, Hs2, Hr2, Hs3, Hr3, Hr4⟩
  isplitl [HzB Ha Ho]
  · isplitl [HzB]; · iexact HzB
    isplitl [Ha]; · iexact Ha
    ihave H := (out_whole c X W) $$ Ho
    icases H with ⟨%f, %hf, H⟩
    iexists f; isplitr; · ipureintro; exact hf
    iexact H
  isplitl [HzS HzR Hn Hz0 Hz1]
  · isplitl [HzS]; · iexact HzS
    isplitl [HzR]; · iexact HzR
    unfold locals
    isplitl [Hn]; · iexact Hn
    isplitl [Hz0]; · iexact Hz0
    iexact Hz1
  isplitl [Hx]
  · unfold xP; rw [free_whole c cc0_scratch0]; iexists (X c); iexact Hx
  isplitl [Hw]
  · unfold wP; rw [free_whole c cc0_scratch1]; iexists (W c); iexact Hw
  isplitl [Hm]
  · iapply (wholeO c mO); unfold om; iexact Hm
  isplitl [Hs1]; · iexact Hs1
  isplitl [Hr1]; · iexact Hr1
  isplitl [Hs2]; · iexact Hs2
  isplitl [Hr2]; · iexact Hr2
  isplitl [Hs3]; · iexact Hs3
  isplitl [Hr3]; · iexact Hr3
  iexact Hr4

/-- The kernel's run on device `c`. -/
theorem wp_gen {Q : PUnit.{1} → sProp 𝕄} :
    start X W c ⊢ iprop((∃ Wt, owes (c : Thread nD τ) (O₀ c) Wt) -∗ scr (F := F) c
      -∗ ((Yc X W c ∗ owns0 (F := F) c ∗ scr (F := F) c ∗ ow c []) -∗ Q ⟨⟩) -∗ wpc c (gen c) Q) := by
  unfold start G' payToks locals
  rw [scr_eq c]
  iintro ⟨⟨%K, #HR, Hat, ⟨⟨Ht1, Ht2⟩, HtS, HtR⟩, Hn, Hz0, Hz1⟩, #Hlev, Hc, Hcr, Ha, Ho⟩ HO
    ⟨Hx, Hw, Hm, Hs1, Hr1, Hs2, Hr2, Hs3, Hr3, Hr4⟩ Hk
  ihave #HR : recs X W K $$ []
  · unfold recs rec0; icases HR with ⟨#H1, #H2⟩
    isplitr; · iexact H1
    isplitr; · iexact H2
    iexact Hlev
  ihave Hsl := (slots_of (F := F) c) $$ [Hr1 Hr2 Hr3 Hr4]
  · isplitl [Hr1]; · iexact Hr1
    isplitl [Hr2]; · iexact Hr2
    isplitl [Hr3]; · iexact Hr3
    iexact Hr4
  ihave Hp := (pre_intro (F := F) c) $$ [Hc Hcr Hat HtS HtR Hn Hs1 Hs2 Hs3 Hm Ho]
  · isplitl [Hc]; · iexact Hc
    isplitl [Hcr]; · iexact Hcr
    isplitl [Hat]; · iexact Hat
    isplitl [HtS HtR]
    · isplitl [HtS]; · iexact HtS
      iexact HtR
    isplitl [Hn]; · iexact Hn
    isplitl [Hs1]; · iexact Hs1
    isplitl [Hs2]; · iexact Hs2
    isplitl [Hs3]; · iexact Hs3
    isplitl [Hm]; · iexact Hm
    iexact Ho
  unfold gen
  iapply (wp_head X W K c) $$ HR HO Ht1 Ht2 Hsl Ha Hx Hw Hz0 Hz1
  iintro ⟨HO, Ha, Hx, Hw, Hz0, Hz1⟩
  iapply (wp_tail X W K c) $$ HR Hp Hx HO
  iintro ⟨Hq, Hx, HO⟩
  ihave H := (post_elim X W c) $$ [Hq Hx Hw Ha Hz0 Hz1]
  · isplitl [Hq]; · iexact Hq
    isplitl [Hx]; · iexact Hx
    isplitl [Hw]; · iexact Hw
    isplitl [Ha]; · iexact Ha
    isplitl [Hz0]; · iexact Hz0
    iexact Hz1
  icases H with ⟨HY, Hown, Hscr⟩
  unfold wpc; rw [wp_ret]; imodintro
  iapply Hk
  isplitl [HY]; · iexact HY
  isplitl [Hown]; · iexact Hown
  isplitl [Hscr]; · rw [← scr_eq c]; iexact Hscr
  iexact HO

end Body

section Run
variable (m : (ℓ : Loc nD τ sig) → Buf (Elt F) ℓ) (ρ : Dev nD → PrngReg)

/-- The operands as launched. -/
abbrev Xm (c : Dev nD) : Vec F S1024x256 .f32 := m ((c : Thread nD τ).loc main_arg0)
abbrev Wm (c : Dev nD) : Vec F S256x1024 .f32 := m ((c : Thread nD τ).loc main_arg1)

def Φ₀ (c : Dev nD) : sProp 𝕄 := iprop(start (Xm m) (Wm m) c ∗ scr (F := F) c)
def Φ₁ (c : Dev nD) : sProp 𝕄 := iprop(Yc (Xm m) (Wm m) c ∗ owns0 (F := F) c ∗ scr (F := F) c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem no_windows (Φ : Fin 0 → sProp 𝕄) : (bigSep Finset.univ Φ : sProp 𝕄) = BI.emp := by
  rw [Finset.univ_eq_empty, BI.bigSep_empty]

theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ bigSep (Finset.univ : Finset (Fin 0)) _)
    ⊢ wp frame (wpE (defs₀ (F := F)) 𝒱₀ (c : Thread nD τ) none) Set.univ (bodyAt0 (F := F) t0_0)
      (fun _ => iprop(Φ₁ m c ∗ (dats m 0 c).owesAt () t0_0.succ ∗ bigSep (Finset.univ : Finset (Fin 0)) _))
  rw [body_eq, no_windows, no_windows]
  unfold Φ₀ Φ₁ Dat.owesAt Pipeline.owesWithin
  rw [show (dats m 0 c).owed t0_0.succ = 0 from rfl, show (dats m 0 c).owed t0_0.castSucc = O₀ c from rfl]
  simp only [wp_deviceId]
  iintro ⟨⟨Hs, Hscr⟩, ⟨%Wt, -, HO⟩, -⟩
  iapply (wp_gen (Xm m) (Wm m) c) $$ Hs [HO] Hscr
  · iexists Wt; iexact HO
  unfold ow oweL
  iintro ⟨HY, Hown, Hscr, ⟨%Wt', HO⟩⟩
  isplitl [HY Hown Hscr]
  · isplitl [HY]; · iexact HY
    isplitl [Hown]; · iexact Hown
    iexact Hscr
  isplitl [HO]
  · iexists Wt'; isplitr; · ipureintro; exact fun _ _ => Or.inl trivial
    iexact HO
  iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xm m) (Wm m) c)
      ⊢ |={Set.univ}=> iprop(start (Xm m) (Wm m) c ∗ emp) := by
  rw [Pipeline.unscopedRestP_none, unscopedRest0_eq]
  iintro ⟨⟨Ha, Hb, Ho⟩, Hlev, Hcr, -, HG⟩
  ihave Hc := (creds (F := F) c) $$ Hcr
  icases Hc with ⟨H1, HN⟩
  imodintro
  unfold start opnd
  isplitl
  · isplitl [HG]; · iexact HG
    isplitl [Hlev]; · iexact Hlev
    isplitl [H1]; · iexact H1
    isplitl [HN]; · iexact HN
    isplitl [Ha Hb]
    · isplitl [Ha]; · iexact Ha
      iexact Hb
    rw [free_whole c main_v1]; iexists (m ((c : Thread nD τ).loc main_v1)); iexact Ho
  · iempintro

theorem phi0_intro (c : Dev nD) :
    iprop(start (Xm m) (Wm m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop(Yc (Xm m) (Wm m) c ∗ Pipeline.ownSems0 own c ∗ Pipeline.scopedRest cfg0.spec c) :=
  BIBase.Entails.rfl

/-- What the run leaves on a device: the arguments as they were, the result at every place, the launch's own counters at zero. -/
def Left (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ Reads (Xm m) (Wm m) c (s.mem ((c : Thread nD τ).loc main_v1))

omit [FloatOps F] in
theorem read_back (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨H, HSI⟩
  ihave %h := (SI_pointsTo_agree) $$ [H HSI]
  · isplitl [HSI] <;> iassumption
  isplitr; · ipureintro; exact funext fun i => h i (Finset.mem_univ i)
  iexact HSI

theorem left_read (c : Dev nD) (s' : Phys nD τ sig (Elt F)) :
    (iprop(Yc (Xm m) (Wm m) c ∗ emp ∗ SI s') : sProp 𝕄) ⊢ |={Set.univ}=> iprop(⌜Left m c s'.mem⌝ ∗ SI s') := by
  unfold Yc opnd
  iintro ⟨⟨Hu, ⟨Ha, Hb⟩, ⟨%f, %hf, Ho⟩⟩, -, HSI⟩
  ihave H := (read_back _ _ s') $$ [Ha HSI]
  · isplitl [Ha] <;> iassumption
  icases H with ⟨%h0, HSI⟩
  ihave H := (read_back _ _ s') $$ [Hb HSI]
  · isplitl [Hb] <;> iassumption
  icases H with ⟨%h1, HSI⟩
  ihave H := (read_back _ _ s') $$ [Ho HSI]
  · isplitl [Ho] <;> iassumption
  icases H with ⟨%h2, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, h0, h1, by rw [h2]; exact hf⟩
  iexact HSI

set_option maxRecDepth 8000 in
/-- From any memory with the counters at zero, for any float values: every weakly fair execution on the four devices
    ends, the arguments as they were, each device's output the result at every place, and every counter at zero. -/
theorem run_main : θ_run defs (onTc (τ := τ) (main (F := F))) (s₀ m ρ) (fun r => (∀ c, Left m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w s t => w.elim0)
    (G := G (Xm m) (Wm m)) (G' := G' (Xm m) (Wm m)) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_cells (Xm m) (Wm m)) $$ [HX] with HG
      · unfold ER; iexact HX
      imodintro
      isplitl [HP] <;> iassumption)
    (hglob := glob (Xm m) (Wm m))
    (hA := fun _ w => w.elim0) (hpf := fun _ k => k.elim0)
    (X := start (Xm m) (Wm m)) (Y := Yc (Xm m) (Wm m)) (Z := fun _ => iprop(emp))
    (hX := start_intro m ρ) (hin := phi0_intro m) (hout := phi1_exit m)
    (QY := Left m) (hY := left_read m)
    (hQ := fun _ h hs => ⟨fun c => (h c).2.2, sem_eq_zero hs fun c => (h c).2.2.1⟩)

end Run

end Cert.AllReduce

end
-- ==== Proof.Value.lean ====
/-
What the devices' results are over the extended reals, against the reference.
-/
module

public import proofs.«01_k».proof.Proof.Launch
public import proofs.«01_k».proof.Proof.Gen.ReferenceIdeal.Run
public import Idealize.ShloMosaic.PureOps.Ideal
public import Idealize.ShloMosaic.Lib.Layout
public import Idealize.ShloMosaic.Lib.MatmulPlain
public import Idealize.ShloMosaic.Lib.StackMember

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-! # Over the extended reals, every device's result is the gelu of the whole product -/

open Idealize.ShloMosaic.ValueIdx
open scoped BigOperators

/-- The whole product at a place. -/
def whole (x w : Vec Ideal S1024x1024 .f32) (p : S1024x1024.Idx) : EReal :=
  ∑ k : Fin 1024, (x (ix2 (p (0 : Fin 2)) k) : EReal) * w (ix2 k (p (1 : Fin 2)))

/-- Device `c`'s contraction index `k`, among all. -/
def glb (c : Fin 4) (k : Fin 256) : Fin 1024 := ⟨k.val + 256 * c.val, by omega⟩

/-- The part of it over the contraction indices that device `c` holds. -/
def part (x w : Vec Ideal S1024x1024 .f32) (c : Fin 4) (p : S1024x1024.Idx) : EReal :=
  ∑ k : Fin 256, (x (ix2 (p (0 : Fin 2)) (glb c k)) : EReal) * w (ix2 (glb c k) (p (1 : Fin 2)))

/-- The parts of the four devices make the whole. -/
theorem whole_parts (x w : Vec Ideal S1024x1024 .f32) (p : S1024x1024.Idx) : whole x w p = ∑ c : Fin 4, part x w c p :=
  ((Equiv.sum_comp (finProdFinEquiv (m := 4) (n := 256)) (fun k : Fin 1024 => (x (ix2 (p (0 : Fin 2)) k) : EReal) * w (ix2 k (p (1 : Fin 2))))).symm).trans
    (Fintype.sum_prod_type _)

/-- A sum over the devices, in the order in which the exchanges add. -/
theorem sum_partners (f : Dev nD → EReal) (i : Fin 2) (c : Dev nD) :
    ∑ d : Dev nD, f d = (f c + f (pa i c)) + (f (pb i c) + f (pa i (pb i c))) := by
  have hu : (Finset.univ : Finset (Dev nD)) = {c, pa i c, pb i c, pa i (pb i c)} := by revert i c; decide
  have h1 : c ∉ ({pa i c, pb i c, pa i (pb i c)} : Finset (Dev nD)) := by revert i c; decide
  have h2 : pa i c ∉ ({pb i c, pa i (pb i c)} : Finset (Dev nD)) := by revert i c; decide
  have h3 : pb i c ∉ ({pa i (pb i c)} : Finset (Dev nD)) := by revert i c; decide
  rw [hu, Finset.sum_insert h1, Finset.sum_insert h2, Finset.sum_insert h3, Finset.sum_singleton, add_assoc]

/-- The gelu of one number, its constants the words of the program. -/
def g1 (y : EReal) : EReal :=
  (Ideal.ofBits .f32 0x3F000000#32 * y)
    * (Ideal.ofBits .f32 0x3F800000#32
      + Ideal.tanh (Ideal.ofBits .f32 0x3F4C422A#32 * (y + Ideal.ofBits .f32 0x3D372713#32 * ((y * y) * y))))

theorem gelu_apply (y : FVec Ideal S128x512 .f32) (j : S128x512.Idx) : gelu y j = g1 (y j) := rfl

/-- The result at a place. -/
def goal (x w : Vec Ideal S1024x1024 .f32) (p : S1024x1024.Idx) : EReal := g1 (whole x w p)

section Device
variable (x w : Vec Ideal S1024x1024 .f32)

/-- The blocks the devices hold. -/
def Xb (c : Dev nD) : Vec Ideal S1024x256 .f32 := Layout.block ⟨2, ![1024, 256]⟩ ⟨2, ![1024, 1024]⟩ 1 4 c x
def Wb (c : Dev nD) : Vec Ideal S256x1024 .f32 := Layout.block ⟨2, ![256, 1024]⟩ ⟨2, ![1024, 1024]⟩ 0 4 c w

/-- The rows of a quarter and the columns of a half, among all. -/
def rowOf (a b : Fin 2) (r : Fin 256) : Fin 1024 := ⟨512 * a.val + 256 * b.val + r.val, by omega⟩
def colOf (i : Fin 2) (l : Fin 512) : Fin 1024 := ⟨512 * i.val + l.val, by omega⟩

theorem xr_apply (c : Dev nD) (a b : Fin 2) (r k : Fin 256) :
    xr (Xb x) c a b (ix2 r k) = x (ix2 (rowOf a b r) (glb c k)) := by
  refine congrArg x (funext fun d => Fin.ext ?_)
  match d with
  | ⟨0, _⟩ => show 512 * a.val + 256 * b.val + 1 * r.val = 512 * a.val + 256 * b.val + r.val; omega
  | ⟨1, _⟩ => show c.val * 256 + (0 + 1 * k.val) = k.val + 256 * c.val; omega

theorem wc_apply (c : Dev nD) (i : Fin 2) (k : Fin 256) (l : Fin 512) :
    wc (Wb w) c i (ix2 k l) = w (ix2 (glb c k) (colOf i l)) := by
  refine congrArg w (funext fun d => Fin.ext ?_)
  match d with
  | ⟨0, _⟩ => show c.val * 256 + (0 + 1 * k.val) = k.val + 256 * c.val; omega
  | ⟨1, _⟩ => show 512 * i.val + 1 * l.val = 512 * i.val + l.val; omega

theorem wb_apply (c : Dev nD) (i : Fin 2) (k : Fin 256) (l : Fin 512) :
    wb (Wb w) c i (ix2 k l) = w (ix2 (glb c k) (colOf i l)) := by
  rw [← wc_apply w]
  match i with
  | 0 => rfl
  | 1 => rfl

theorem dq_apply (c : Dev nD) (i a b : Fin 2) (r : Fin 256) (l : Fin 512) :
    dq (Xb x) (Wb w) c i a b (ix2 r l) = part x w c (ix2 (rowOf a b r) (colOf i l)) := by
  refine (Ideal.matmul_plain_apply (M := 256) (K := 256) (N := 512) none (toB (xr (Xb x) c a b)) (wb (Wb w) c i)
    (constant S256x512 .f32 0x00000000#32) r l).trans ?_
  have hz : (constant (F := Ideal) S256x512 .f32 0x00000000#32) (ix2 r l) = (0 : EReal) := Ideal.ofBits_zero_f32
  rw [hz, zero_add]
  refine Finset.sum_congr rfl fun k _ => ?_
  rw [wb_apply]
  exact congrArg (· * _) (xr_apply x c a b r k)

theorem sm2_apply (c : Dev nD) (i j : Fin 2) (r : Fin 256) (l : Fin 512) :
    sm2 (Xb x) (Wb w) c i j (ix2 r l)
      = part x w c (ix2 (rowOf (h i c) j r) (colOf i l)) + part x w (pa i c) (ix2 (rowOf (h i c) j r) (colOf i l)) := by
  have e : vA (Xb x) (Wb w) (pa i c) i j = toB (dq (Xb x) (Wb w) (pa i c) i (h i c) j) := by
    unfold vA; rw [h_pa, no_no]
  unfold sm2; rw [e]
  exact congrArg₂ (· + ·) (dq_apply x w c i _ j r l) (dq_apply x w (pa i c) i _ j r l)

/-- The rows of a half of a quarter, in the quarter. -/
def rowH (s : Fin 2) (r : Fin 128) : Fin 256 := ⟨128 * s.val + r.val, by omega⟩

theorem halfV_apply (s : Fin 2) (v : FVec Ideal S256x512 .f32) (r : Fin 128) (l : Fin 512) :
    halfV s v (ix2 r l) = v (ix2 (rowH s r) l) := by
  refine congrArg v (funext fun d => Fin.ext ?_)
  match d with
  | ⟨0, _⟩ => rfl
  | ⟨1, _⟩ => exact Nat.zero_add _

theorem place (a b s i : Fin 2) (r : Fin 128) (l : Fin 512) :
    (ix2 (rowOf a b (rowH s r)) (colOf i l) : S1024x1024.Idx) = (rO a (k4 b s) i).emb (ix2 r l) := by
  refine funext fun d => Fin.ext ?_
  match d with
  | ⟨0, _⟩ =>
    show 512 * a.val + 256 * b.val + (128 * s.val + r.val) = 512 * a.val + 128 * (2 * b.val + s.val) + 1 * r.val
    omega
  | ⟨1, _⟩ => show 512 * i.val + l.val = 512 * i.val + 1 * l.val; omega

/-- A device's own quarter is finished right. -/
theorem fin_apply (c : Dev nD) (i s : Fin 2) (j : S128x512.Idx) :
    fin (Xb x) (Wb w) c i s j = goal x w ((rO (h i c) (k4 (q i c) s) i).emb j) := by
  obtain ⟨r, l, rfl⟩ : ∃ (r : Fin 128) (l : Fin 512), j = ix2 r l := ⟨_, _, eq_ix2 j⟩
  have e : vB (Xb x) (Wb w) (pb i c) i s = toB (halfV s (sm2 (Xb x) (Wb w) (pb i c) i (q i c))) := by
    unfold vB; rw [q_pb, no_no]
  unfold fin; rw [e, gelu_apply, ← place]
  refine congrArg g1 ?_
  rw [whole_parts]
  refine Eq.trans ?_ (sum_partners _ i c).symm
  refine congrArg₂ (· + ·) ((halfV_apply s _ r l).trans (sm2_apply x w c i _ _ l)) ?_
  refine ((halfV_apply s _ r l).trans (sm2_apply x w (pb i c) i _ _ l)).trans ?_
  rw [h_pb]

theorem fin_ks (c : Dev nD) (i : Fin 2) (k : Fin 4) (hk : kq k = q i c) (j : S128x512.Idx) :
    fin (Xb x) (Wb w) c i (ks k) j = goal x w ((rO (h i c) k i).emb j) := by
  rw [fin_apply, ← hk, k4_kq]

theorem fin_pb (c : Dev nD) (i : Fin 2) (k : Fin 4) (hk : ¬ kq k = q i c) (j : S128x512.Idx) :
    fin (Xb x) (Wb w) (pb i c) i (ks k) j = goal x w ((rO (h i c) k i).emb j) := by
  rw [fin_ks x w (pb i c) i k (by rw [q_pb]; exact eq_no hk), h_pb]

theorem vE_apply (c : Dev nD) (i : Fin 2) (k : Fin 4) (j : S128x512.Idx) :
    (vE (Xb x) (Wb w) c i k j : EReal) = goal x w ((rO (h i c) k i).emb j) := by
  unfold vE
  by_cases hk : kq k = q i c
  · rw [if_pos hk]; exact fin_ks x w c i k hk j
  · rw [if_neg hk]; exact fin_pb x w c i k hk j

/-- Every part of every device's result is the gelu of the whole product there. -/
theorem res_apply (c : Dev nD) (a : Fin 2) (k : Fin 4) (i : Fin 2) (j : S128x512.Idx) :
    res (Xb x) (Wb w) c a k i j = goal x w ((rO a k i).emb j) := by
  unfold res
  by_cases ha : a = h i c
  · rw [if_pos ha, ha]
    by_cases hk : kq k = q i c
    · rw [if_pos hk]; exact fin_ks x w c i k hk j
    · rw [if_neg hk]; exact fin_pb x w c i k hk j
  · rw [if_neg ha]
    refine (vE_apply x w (pa i c) i k j).trans ?_
    rw [h_pa, ← eq_no ha]

/-- Every place is in its part. -/
theorem place_emb (p : S1024x1024.Idx) : ∃ j : S128x512.Idx, (rO (placeOf p).1 (placeOf p).2.1 (placeOf p).2.2).emb j = p := by
  have hm := mem_placeOf p
  rw [← Rect.map_emb_univ] at hm
  obtain ⟨j, -, hj⟩ := Finset.mem_map.mp hm
  exact ⟨j, hj⟩

/-- So an array that reads as the run leaves it is the whole result. -/
theorem reads_goal (c : Dev nD) (f : Buf (Elt Ideal) ((c : Thread nD τ).loc main_v1)) (hf : Reads (Xb x) (Wb w) c f) :
    (f : Vec Ideal S1024x1024 .f32) = goal x w := by
  funext p
  obtain ⟨j, hj⟩ := place_emb p
  have := hf (placeOf p).1 (placeOf p).2.1 (placeOf p).2.2 j
  rw [res_apply] at this
  rw [← hj]; exact this

end Device

/-- The whole product as the reference names it, and its value. -/
def prodR (x w : FVec Ideal Cert.ReferenceIdeal.S1024x1024 .f32) : FVec Ideal Cert.ReferenceIdeal.S1024x1024 .f32 :=
  Host.dotGeneral Cert.ReferenceIdeal.dot_S1024x1024_S1024x1024_S1024x1024_1_0_0_1_n_n none x w

/-- One number at every place. -/
def fillR (v : BitVec 32) : FVec Ideal Cert.ReferenceIdeal.S1024x1024 .f32 :=
  broadcastInDim Cert.ReferenceIdeal.S1024x1024 ![] Cert.ReferenceIdeal.Facts₀.bcast_S_S1024x1024 (constant Cert.ReferenceIdeal.S_ .f32 v)

def valR (y : FVec Ideal Cert.ReferenceIdeal.S1024x1024 .f32) : FVec Ideal Cert.ReferenceIdeal.S1024x1024 .f32 :=
  mulf (mulf (fillR 0x3F000000#32) y) (addf (fillR 0x3F800000#32)
    (Host.tanh (mulf (fillR 0x3F4C422A#32) (addf y (mulf (fillR 0x3D372713#32) (mulf (mulf y y) y))))))

/-- The reference's value is the same. -/
theorem reference_goal (x w : Vec Ideal S1024x1024 .f32) : valR (prodR x w) = goal x w := by
  have hd : prodR x w = whole x w := by
    funext p
    refine (congrArg (prodR x w) (eq_ix2 p)).trans ?_
    exact StackMember.dotGeneral_plain_apply (m := 1024) (k := 1024) (n := 1024) none x w (p (0 : Fin 2)) (p (1 : Fin 2))
  rw [hd]
  rfl

end Cert.AllReduce

end
-- ==== Proof.lean ====
/- The certificate: the programs run, end as they began but for the result, and the result is the
   reference's. The run is Proof/Launch.lean's `run_main`, the value Proof/Value.lean's `reads_goal`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.AllReduce (run_main reads_goal reference_goal goal)

/-- The kernel at its own bits: the run is the one proved for any floats. -/
theorem frame_kernel : Cert.quiescent_Kernel (hKernel := Cert.Kernel.Gen.facts) := fun m ρ _ =>
  (θ_run (Cert.KernelIdeal.defs (F := Bits)) _ _).mono (fun _ hr => ⟨fun c => ⟨(hr.1 c).2.1, (hr.1 c).2.2.1⟩, hr.2⟩) (run_main (F := Bits) m ρ)

theorem frame_kernelIdeal : Cert.quiescent_KernelIdeal (hKernelIdeal := Cert.KernelIdeal.Gen.facts) := fun m ρ _ =>
  (θ_run (Cert.KernelIdeal.defs (F := Ideal)) _ _).mono (fun _ hr => ⟨fun c => ⟨(hr.1 c).2.1, (hr.1 c).2.2.1⟩, hr.2⟩) (run_main (F := Ideal) m ρ)

/-- The reference's program has no semaphore. -/
theorem frame_reference : Cert.quiescent_ReferenceIdeal (hReferenceIdeal := Cert.ReferenceIdeal.Gen.facts) := fun m ρ _ =>
  (θ_run (Cert.ReferenceIdeal.defs (F := Ideal)) _ _).mono
    (fun _ hr => ⟨fun c => (hr c).2, funext fun s => by
      rcases s with ⟨t, sm⟩; cases sm with
      | reg k => exact k.elim0
      | dma k => exact k.elim0⟩)
    (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) := by
  intro m ρ m' ρ' _ hm
  have hX : Cert.AllReduce.Xm m = Cert.AllReduce.Xb (m' (((0 : Dev Cert.ReferenceIdeal.nD).tc : Thread Cert.ReferenceIdeal.nD Cert.ReferenceIdeal.τ).loc Cert.ReferenceIdeal.main_arg0)) :=
    funext fun c => (hm c).1
  have hW : Cert.AllReduce.Wm m = Cert.AllReduce.Wb (m' (((0 : Dev Cert.ReferenceIdeal.nD).tc : Thread Cert.ReferenceIdeal.nD Cert.ReferenceIdeal.τ).loc Cert.ReferenceIdeal.main_arg1)) :=
    funext fun c => (hm c).2
  refine ⟨goal (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono (fun r hr c => ⟨?_, (hr.1 c).2.1, (hr.1 c).2.2.1⟩) (run_main (F := Ideal) m ρ)
    have hread := (hr.1 c).2.2.2
    rw [hX, hW] at hread
    exact reads_goal _ _ c _ hread
  · exact (θ_run (Cert.ReferenceIdeal.defs (F := Ideal)) _ _).mono
      (fun r hr => ⟨(hr 0).1.trans (reference_goal _ _), (hr 0).2⟩) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
